-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_decrements [hPre_index_decrements : Cert.Pre_index_decrements.Facts] (m : (ℓ : Loc Cert.KernelIdeal.nD Cert.KernelIdeal.τ Cert.KernelIdeal.sig) → Buf (Elt Ideal) ℓ) : Prop :=
  ∀ c : Dev Cert.KernelIdeal.nD,
    (Cert.Pre_index_decrements.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_decrements [hPre_index_decrements : Cert.Pre_index_decrements.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_decrements.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_index_decrements [hKernelIdeal : Cert.KernelIdeal.Facts] [hPre_index_decrements : Cert.Pre_index_decrements.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_decrements m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_index_decrements [hReferenceIdeal : Cert.ReferenceIdeal.Facts] [hPre_index_decrements : Cert.Pre_index_decrements.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_decrements m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_index_decrements [hKernelIdeal : Cert.KernelIdeal.Facts] [hReferenceIdeal : Cert.ReferenceIdeal.Facts] [hPre_index_decrements : Cert.Pre_index_decrements.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_decrements m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_index_decrements : Cert.Pre_index_decrements.Facts),
    quiescent_Kernel (hKernel := hKernel)
    ∧ quiescent_KernelIdeal (hKernelIdeal := hKernelIdeal)
    ∧ quiescent_KernelIdeal_pre_index_decrements (hKernelIdeal := hKernelIdeal) (hPre_index_decrements := hPre_index_decrements)
    ∧ quiescent_ReferenceIdeal (hReferenceIdeal := hReferenceIdeal)
    ∧ quiescent_ReferenceIdeal_pre_index_decrements (hReferenceIdeal := hReferenceIdeal) (hPre_index_decrements := hPre_index_decrements)
    ∧ preserves_Kernel_KernelIdeal
    ∧ algebraic_KernelIdeal_ReferenceIdeal_pre_index_decrements (hKernelIdeal := hKernelIdeal) (hReferenceIdeal := hReferenceIdeal) (hPre_index_decrements := hPre_index_decrements)
-- ==== Pre_index_decrements.lean ====
abbrev S4096x64 : Shape := ⟨2, ![4096, 64]⟩
abbrev S4096x4x64x64 : Shape := ⟨4, ![4096, 4, 64, 64]⟩
abbrev S4x7x64x64 : Shape := ⟨4, ![4, 7, 64, 64]⟩
abbrev S64 : Shape := ⟨1, ![64]⟩
abbrev S_ : Shape := ⟨0, ![]⟩

class Facts : Prop where

variable [Facts]

def fn {F : FTy → Type} [FloatOps F] (main_arg0 : FVec F S4096x64 .f32) (main_arg1 : FVec F S4096x4x64x64 .f32) (main_arg2 : FVec F S4x7x64x64 .f32) (main_arg3 : FVec F S64 .f32) (main_arg4 : IVec S_ 32) : IVec S_ 1 :=
  let main_c : IVec S_ 32 := constantI S_ 32 2147483648#32
  let main_v0 : IVec S_ 1 := cmpi .sgt main_arg4 main_c
  main_v0
-- ==== Kernel.lean ====
abbrev S4096x64 : Shape := ⟨2, ![4096, 64]⟩
abbrev S4096x4x64x64 : Shape := ⟨4, ![4096, 4, 64, 64]⟩
abbrev S4x7x64x64 : Shape := ⟨4, ![4, 7, 64, 64]⟩
abbrev S64 : Shape := ⟨1, ![64]⟩
abbrev S_ : Shape := ⟨0, ![]⟩
abbrev S1 : Shape := ⟨1, ![1]⟩
abbrev S4 : Shape := ⟨1, ![4]⟩
abbrev S1x64 : Shape := ⟨2, ![1, 64]⟩
abbrev S64x64 : Shape := ⟨2, ![64, 64]⟩
abbrev S64x4x64x64 : Shape := ⟨4, ![64, 4, 64, 64]⟩
abbrev S64x1x64 : Shape := ⟨3, ![64, 1, 64]⟩
abbrev S64x1x1x64 : Shape := ⟨4, ![64, 1, 1, 64]⟩
abbrev S64x2x64x64 : Shape := ⟨4, ![64, 2, 64, 64]⟩
abbrev S64x1x64x64 : Shape := ⟨4, ![64, 1, 64, 64]⟩
abbrev S64x64x64 : Shape := ⟨3, ![64, 64, 64]⟩
abbrev S1x64x1 : Shape := ⟨3, ![1, 64, 1]⟩
abbrev S1x1x64x64 : Shape := ⟨4, ![1, 1, 64, 64]⟩

abbrev nBuf : Space → Nat
  | .hbm => 58
  | .vmem => 10
  | .smem => 1
  | _ => 0

abbrev bufTy : (tb : Table) → Fin (tcTables nBuf tb) → BufTy
  | .hbm, ⟨0, _⟩ => ⟨S4096x64, .f32⟩
  | .hbm, ⟨1, _⟩ => ⟨S4096x4x64x64, .f32⟩
  | .hbm, ⟨2, _⟩ => ⟨S4x7x64x64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i1⟩
  | .hbm, ⟨18, _⟩ => ⟨S_, .i1⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i1⟩
  | .hbm, ⟨37, _⟩ => ⟨S_, .i1⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i1⟩
  | .hbm, ⟨48, _⟩ => ⟨S_, .i1⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S1, .i32⟩
  | .hbm, ⟨53, _⟩ => ⟨S1, .i32⟩
  | .hbm, ⟨54, _⟩ => ⟨S4, .i32⟩
  | .hbm, ⟨55, _⟩ => ⟨S1x64, .f32⟩
  | .hbm, ⟨56, _⟩ => ⟨S4096x64, .f32⟩
  | .hbm, ⟨57, _⟩ => ⟨S4096x4x64x64, .f32⟩
  | .local _ .vmem, ⟨0, _⟩ => ⟨S64x64, .f32⟩
  | .local _ .vmem, ⟨1, _⟩ => ⟨S64x64, .f32⟩
  | .local _ .vmem, ⟨2, _⟩ => ⟨S64x4x64x64, .f32⟩
  | .local _ .vmem, ⟨3, _⟩ => ⟨S64x4x64x64, .f32⟩
  | .local _ .vmem, ⟨4, _⟩ => ⟨S4x7x64x64, .f32⟩
  | .local _ .vmem, ⟨5, _⟩ => ⟨S1x64, .f32⟩
  | .local _ .vmem, ⟨6, _⟩ => ⟨S64x64, .f32⟩
  | .local _ .vmem, ⟨7, _⟩ => ⟨S64x64, .f32⟩
  | .local _ .vmem, ⟨8, _⟩ => ⟨S64x4x64x64, .f32⟩
  | .local _ .vmem, ⟨9, _⟩ => ⟨S64x4x64x64, .f32⟩
  | .local _ .smem, ⟨0, _⟩ => ⟨S4, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_c_1 : Ref sig .tc := ⟨.hbm, 12, rfl⟩
abbrev main_call0_v4 : Ref sig .tc := ⟨.hbm, 13, rfl⟩
abbrev main_call0_c_2 : Ref sig .tc := ⟨.hbm, 14, rfl⟩
abbrev main_call0_v5 : Ref sig .tc := ⟨.hbm, 15, rfl⟩
abbrev main_call0_c_3 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_v0 : Ref sig .tc := ⟨.hbm, 21, rfl⟩
abbrev main_c_0 : Ref sig .tc := ⟨.hbm, 22, rfl⟩
abbrev main_v1 : Ref sig .tc := ⟨.hbm, 23, rfl⟩
abbrev main_c_1 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_c_1 : Ref sig .tc := ⟨.hbm, 31, rfl⟩
abbrev main_call1_v4 : Ref sig .tc := ⟨.hbm, 32, rfl⟩
abbrev main_call1_c_2 : Ref sig .tc := ⟨.hbm, 33, rfl⟩
abbrev main_call1_v5 : Ref sig .tc := ⟨.hbm, 34, rfl⟩
abbrev main_call1_c_3 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_v2 : Ref sig .tc := ⟨.hbm, 40, rfl⟩
abbrev main_c_2 : Ref sig .tc := ⟨.hbm, 41, rfl⟩
abbrev main_v3 : Ref sig .tc := ⟨.hbm, 42, rfl⟩
abbrev main_v4 : Ref sig .tc := ⟨.hbm, 43, rfl⟩
abbrev main_c_3 : Ref sig .tc := ⟨.hbm, 44, rfl⟩
abbrev main_v5 : Ref sig .tc := ⟨.hbm, 45, rfl⟩
abbrev main_c_4 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15_0 : Ref sig .tc := ⟨.hbm, 56, rfl⟩
abbrev main_v15_1 : Ref sig .tc := ⟨.hbm, 57, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def k0_off1 (v1 : BitVec 32) : Fin 4 → Nat :=
  let c0_392 : Index := 0#32
  let c3_393 : Index := 3#32
  let v455 : Index := Scalar.indexCast v1
  let c0_394 : Index := 0#32
  ![0, 3, v455.toNat, 0]
def k0_cond1 (v3 : BitVec 32) : BitVec 1 :=
  let c0_i32 : BitVec 32 := 0#32
  let v4 : BitVec 1 := Scalar.cmpi .eq v3 c0_i32
  let v5 : BitVec 32 := Scalar.extui v4
  let c0_i32_0 : BitVec 32 := 0#32
  let v6 : BitVec 1 := Scalar.cmpi .ne v5 c0_i32_0
  v6

def k0_cond2 (v2 : BitVec 32) : BitVec 1 :=
  let c1_i32_388 : BitVec 32 := 1#32
  let v450 : BitVec 1 := Scalar.cmpi .eq v2 c1_i32_388
  let v451 : BitVec 32 := Scalar.extui v450
  let c0_i32_389 : BitVec 32 := 0#32
  let v452 : BitVec 1 := Scalar.cmpi .ne v451 c0_i32_389
  v452

def k0_chk1 (v1 : BitVec 32) (v2 : BitVec 32) (v3 : BitVec 32) : Prop :=
  (∀ (k0_h1 : k0_cond1 v3 = 1#1), ∀ (k0_h2 : k0_cond2 v2 = 1#1), ∀ a, (k0_off1 v1) a + S64x1x1x64.size a ≤ S64x4x64x64.size a)
theorem k0_off1_inb : ∀ (v1 : BitVec 32) (v2 : BitVec 32) (v3 : BitVec 32) (k0_hw1 : k0_chk1 v1 v2 v3), ∀ (k0_h1 : k0_cond1 v3 = 1#1), ∀ (k0_h2 : k0_cond2 v2 = 1#1), ∀ a, (k0_off1 v1) a + S64x1x1x64.size a ≤ S64x4x64x64.size a := fun v1 v2 v3 k0_hw1 k0_h1 k0_h2 => k0_hw1 k0_h1 k0_h2

def k0_off2 (v0 : BitVec 32) (c0_i32_2 : BitVec 32) : Fin 4 → Nat :=
  let c0_7 : Index := 0#32
  let c0_8 : Index := 0#32
  let c63_i32 : BitVec 32 := 63#32
  let c0_i32_6 : BitVec 32 := 0#32
  let c3_i32 : BitVec 32 := 3#32
  let v11 : BitVec 32 := Scalar.subi v0 c3_i32
  let v12 : BitVec 32 := Scalar.addi v11 c0_i32_2
  let v17 : BitVec 32 := Scalar.maxsi c0_i32_6 v12
  let v18 : BitVec 32 := Scalar.minsi c63_i32 v17
  let v19 : Index := Scalar.indexCast v18
  let c0_9 : Index := 0#32
  ![0, 0, v19.toNat, 0]

def k0_off3 (v0 : BitVec 32) (c0_i32_105 : BitVec 32) : Fin 4 → Nat :=
  let c0_112 : Index := 0#32
  let c1_113 : Index := 1#32
  let c63_i32_111 : BitVec 32 := 63#32
  let c0_i32_110 : BitVec 32 := 0#32
  let c3_i32_104 : BitVec 32 := 3#32
  let v137 : BitVec 32 := Scalar.subi v0 c3_i32_104
  let v138 : BitVec 32 := Scalar.addi v137 c0_i32_105
  let v143 : BitVec 32 := Scalar.maxsi c0_i32_110 v138
  let v144 : BitVec 32 := Scalar.minsi c63_i32_111 v143
  let v145 : Index := Scalar.indexCast v144
  let c0_114 : Index := 0#32
  ![0, 1, v145.toNat, 0]
def k0_off4 (v0 : BitVec 32) (c0_i32_217 : BitVec 32) : Fin 4 → Nat :=
  let c0_224 : Index := 0#32
  let c2_225 : Index := 2#32
  let c63_i32_223 : BitVec 32 := 63#32
  let c0_i32_222 : BitVec 32 := 0#32
  let c3_i32_216 : BitVec 32 := 3#32
  let v263 : BitVec 32 := Scalar.subi v0 c3_i32_216
  let v264 : BitVec 32 := Scalar.addi v263 c0_i32_217
  let v269 : BitVec 32 := Scalar.maxsi c0_i32_222 v264
  let v270 : BitVec 32 := Scalar.minsi c63_i32_223 v269
  let v271 : Index := Scalar.indexCast v270
  let c0_226 : Index := 0#32
  ![0, 2, v271.toNat, 0]
def k0_off5 (v0 : BitVec 32) (c0_i32_329 : BitVec 32) : Fin 4 → Nat :=
  let c0_336 : Index := 0#32
  let c3_337 : Index := 3#32
  let c63_i32_335 : BitVec 32 := 63#32
  let c0_i32_334 : BitVec 32 := 0#32
  let c3_i32_328 : BitVec 32 := 3#32
  let v389 : BitVec 32 := Scalar.subi v0 c3_i32_328
  let v390 : BitVec 32 := Scalar.addi v389 c0_i32_329
  let v395 : BitVec 32 := Scalar.maxsi c0_i32_334 v390
  let v396 : BitVec 32 := Scalar.minsi c63_i32_335 v395
  let v397 : Index := Scalar.indexCast v396
  let c0_338 : Index := 0#32
  ![0, 3, v397.toNat, 0]

def k0_chk2 (v0 : BitVec 32) : Prop :=
  (∀ (r : Fin 7), ∀ a, (k0_off2 v0 (BitVec.ofNat 32 r.val)) a + S64x1x1x64.size a ≤ S64x4x64x64.size a) ∧
  (∀ (r : Fin 7), ∀ a, (k0_off3 v0 (BitVec.ofNat 32 r.val)) a + S64x1x1x64.size a ≤ S64x4x64x64.size a) ∧
  (∀ (r : Fin 7), ∀ a, (k0_off4 v0 (BitVec.ofNat 32 r.val)) a + S64x1x1x64.size a ≤ S64x4x64x64.size a) ∧
  (∀ (r : Fin 3), ∀ a, (k0_off5 v0 (BitVec.ofNat 32 r.val)) a + S64x1x1x64.size a ≤ S64x4x64x64.size a)
theorem k0_off2_inb : ∀ (v0 : BitVec 32) (k0_hw2 : k0_chk2 v0), ∀ (r : Fin 7), ∀ a, (k0_off2 v0 (BitVec.ofNat 32 r.val)) a + S64x1x1x64.size a ≤ S64x4x64x64.size a := fun v0 k0_hw2 r => k0_hw2.1 r
theorem k0_off3_inb : ∀ (v0 : BitVec 32) (k0_hw2 : k0_chk2 v0), ∀ (r : Fin 7), ∀ a, (k0_off3 v0 (BitVec.ofNat 32 r.val)) a + S64x1x1x64.size a ≤ S64x4x64x64.size a := fun v0 k0_hw2 r => k0_hw2.2.1 r
theorem k0_off4_inb : ∀ (v0 : BitVec 32) (k0_hw2 : k0_chk2 v0), ∀ (r : Fin 7), ∀ a, (k0_off4 v0 (BitVec.ofNat 32 r.val)) a + S64x1x1x64.size a ≤ S64x4x64x64.size a := fun v0 k0_hw2 r => k0_hw2.2.2.1 r
theorem k0_off5_inb : ∀ (v0 : BitVec 32) (k0_hw2 : k0_chk2 v0), ∀ (r : Fin 3), ∀ a, (k0_off5 v0 (BitVec.ofNat 32 r.val)) a + S64x1x1x64.size a ≤ S64x4x64x64.size a := fun v0 k0_hw2 r => k0_hw2.2.2.2 r

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x7x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x64 : Shape := ⟨2, ![4096, 64]⟩
abbrev S4096x4x64x64 : Shape := ⟨4, ![4096, 4, 64, 64]⟩
abbrev S4x7x64x64 : Shape := ⟨4, ![4, 7, 64, 64]⟩
abbrev S64 : Shape := ⟨1, ![64]⟩
abbrev S_ : Shape := ⟨0, ![]⟩
abbrev S4x7x1x1 : Shape := ⟨4, ![4, 7, 1, 1]⟩
abbrev S4096x1x1x64 : Shape := ⟨4, ![4096, 1, 1, 64]⟩
abbrev S4096x3x64x64 : Shape := ⟨4, ![4096, 3, 64, 64]⟩
abbrev S4096x4x70x64 : Shape := ⟨4, ![4096, 4, 70, 64]⟩
abbrev S4096x4x7x64 : Shape := ⟨4, ![4096, 4, 7, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4x64x64, .f32⟩
  | .hbm, ⟨2, _⟩ => ⟨S4x7x64x64, .f32⟩
  | .hbm, ⟨3, _⟩ => ⟨S64, .f32⟩
  | .hbm, ⟨4, _⟩ => ⟨S_, .i32⟩
  | .hbm, ⟨5, _⟩ => ⟨S4x7x1x1, .f32⟩
  | .hbm, ⟨6, _⟩ => ⟨S4x7x64x64, .f32⟩
  | .hbm, ⟨7, _⟩ => ⟨S4x7x64x64, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i1⟩
  | .hbm, ⟨21, _⟩ => ⟨S_, .i1⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i1⟩
  | .hbm, ⟨40, _⟩ => ⟨S_, .i1⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S4096x1x1x64, .f32⟩
  | .hbm, ⟨45, _⟩ => ⟨S_, .i32⟩
  | .hbm, ⟨46, _⟩ => ⟨S_, .i1⟩
  | .hbm, ⟨47, _⟩ => ⟨S4096x3x64x64, .f32⟩
  | .hbm, ⟨48, _⟩ => ⟨S_, .i32⟩
  | .hbm, ⟨49, _⟩ => ⟨S_, .f32⟩
  | .hbm, ⟨50, _⟩ => ⟨S4096x4x64x64, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S4096x4x64x64, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S4096x4x64x64, .f32⟩
  | .hbm, ⟨69, _⟩ => ⟨S4096x3x64x64, .f32⟩
  | .hbm, ⟨70, _⟩ => ⟨S_, .i32⟩
  | .hbm, ⟨71, _⟩ => ⟨S_, .f32⟩
  | .hbm, ⟨72, _⟩ => ⟨S4096x4x64x64, .f32⟩
  | .hbm, ⟨73, _⟩ => ⟨S4096x4x64x64, .f32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S4096x4x64x64, .f32⟩
  | .hbm, ⟨85, _⟩ => ⟨S4096x4x64x64, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i1⟩
  | .hbm, ⟨90, _⟩ => ⟨S4096x4x64x64, .f32⟩
  | .hbm, ⟨91, _⟩ => ⟨S_, .i32⟩
  | .hbm, ⟨92, _⟩ => ⟨S_, .f32⟩
  | .hbm, ⟨93, _⟩ => ⟨S4096x4x70x64, .f32⟩
  | .hbm, ⟨94, _⟩ => ⟨S_, .i32⟩
  | .hbm, ⟨95, _⟩ => ⟨S_, .i1⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S4096x4x7x64, .f32⟩
  | .hbm, ⟨103, _⟩ => ⟨S4096x64, .f32⟩
  | .hbm, ⟨104, _⟩ => ⟨S1x64, .f32⟩
  | .hbm, ⟨105, _⟩ => ⟨S4096x64, .f32⟩
  | .hbm, ⟨106, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_c_1 : Ref sig .tc := ⟨.hbm, 15, rfl⟩
abbrev main_call0_v4 : Ref sig .tc := ⟨.hbm, 16, rfl⟩
abbrev main_call0_c_2 : Ref sig .tc := ⟨.hbm, 17, rfl⟩
abbrev main_call0_v5 : Ref sig .tc := ⟨.hbm, 18, rfl⟩
abbrev main_call0_c_3 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_c_1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_c_1 : Ref sig .tc := ⟨.hbm, 34, rfl⟩
abbrev main_call1_v4 : Ref sig .tc := ⟨.hbm, 35, rfl⟩
abbrev main_call1_c_2 : Ref sig .tc := ⟨.hbm, 36, rfl⟩
abbrev main_call1_v5 : Ref sig .tc := ⟨.hbm, 37, rfl⟩
abbrev main_call1_c_3 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_v4 : Ref sig .tc := ⟨.hbm, 43, rfl⟩
abbrev main_v5 : Ref sig .tc := ⟨.hbm, 44, rfl⟩
abbrev main_c_2 : Ref sig .tc := ⟨.hbm, 45, rfl⟩
abbrev main_v6 : Ref sig .tc := ⟨.hbm, 46, rfl⟩
abbrev main_v7 : Ref sig .tc := ⟨.hbm, 47, rfl⟩
abbrev main_c_3 : Ref sig .tc := ⟨.hbm, 48, rfl⟩
abbrev main_call2_v0 : Ref sig .tc := ⟨.hbm, 49, rfl⟩
abbrev main_v8 : Ref sig .tc := ⟨.hbm, 50, rfl⟩
abbrev main_c_4 : Ref sig .tc := ⟨.hbm, 51, rfl⟩
abbrev main_v9 : Ref sig .tc := ⟨.hbm, 52, rfl⟩
abbrev main_c_5 : Ref sig .tc := ⟨.hbm, 53, rfl⟩
abbrev main_v10 : Ref sig .tc := ⟨.hbm, 54, rfl⟩
abbrev main_v11 : Ref sig .tc := ⟨.hbm, 55, rfl⟩
abbrev main_c_6 : Ref sig .tc := ⟨.hbm, 56, rfl⟩
abbrev main_c_7 : Ref sig .tc := ⟨.hbm, 57, rfl⟩
abbrev main_c_8 : Ref sig .tc := ⟨.hbm, 58, rfl⟩
abbrev main_v12 : Ref sig .tc := ⟨.hbm, 59, rfl⟩
abbrev main_c_9 : Ref sig .tc := ⟨.hbm, 60, rfl⟩
abbrev main_v13 : Ref sig .tc := ⟨.hbm, 61, rfl⟩
abbrev main_c_10 : Ref sig .tc := ⟨.hbm, 62, rfl⟩
abbrev main_v14 : Ref sig .tc := ⟨.hbm, 63, rfl⟩
abbrev main_v15 : Ref sig .tc := ⟨.hbm, 64, rfl⟩
abbrev main_c_11 : Ref sig .tc := ⟨.hbm, 65, rfl⟩
abbrev main_c_12 : Ref sig .tc := ⟨.hbm, 66, rfl⟩
abbrev main_c_13 : Ref sig .tc := ⟨.hbm, 67, rfl⟩
abbrev main_v16 : Ref sig .tc := ⟨.hbm, 68, rfl⟩
abbrev main_v17 : Ref sig .tc := ⟨.hbm, 69, rfl⟩
abbrev main_c_14 : Ref sig .tc := ⟨.hbm, 70, rfl⟩
abbrev main_call3_v0 : Ref sig .tc := ⟨.hbm, 71, rfl⟩
abbrev main_v18 : Ref sig .tc := ⟨.hbm, 72, rfl⟩
abbrev main_v19 : Ref sig .tc := ⟨.hbm, 73, rfl⟩
abbrev main_c_15 : Ref sig .tc := ⟨.hbm, 74, rfl⟩
abbrev main_v20 : Ref sig .tc := ⟨.hbm, 75, rfl⟩
abbrev main_c_16 : Ref sig .tc := ⟨.hbm, 76, rfl⟩
abbrev main_v21 : Ref sig .tc := ⟨.hbm, 77, rfl⟩
abbrev main_c_17 : Ref sig .tc := ⟨.hbm, 78, rfl⟩
abbrev main_v22 : Ref sig .tc := ⟨.hbm, 79, rfl⟩
abbrev main_v23 : Ref sig .tc := ⟨.hbm, 80, rfl⟩
abbrev main_c_18 : Ref sig .tc := ⟨.hbm, 81, rfl⟩
abbrev main_c_19 : Ref sig .tc := ⟨.hbm, 82, rfl⟩
abbrev main_c_20 : Ref sig .tc := ⟨.hbm, 83, rfl⟩
abbrev main_v24 : Ref sig .tc := ⟨.hbm, 84, rfl⟩
abbrev main_v25 : Ref sig .tc := ⟨.hbm, 85, rfl⟩
abbrev main_c_21 : Ref sig .tc := ⟨.hbm, 86, rfl⟩
abbrev main_v26 : Ref sig .tc := ⟨.hbm, 87, rfl⟩
abbrev main_c_22 : Ref sig .tc := ⟨.hbm, 88, rfl⟩
abbrev main_v27 : Ref sig .tc := ⟨.hbm, 89, rfl⟩
abbrev main_v28 : Ref sig .tc := ⟨.hbm, 90, rfl⟩
abbrev main_c_23 : Ref sig .tc := ⟨.hbm, 91, rfl⟩
abbrev main_call7_v0 : Ref sig .tc := ⟨.hbm, 92, rfl⟩
abbrev main_v29 : Ref sig .tc := ⟨.hbm, 93, rfl⟩
abbrev main_c_24 : Ref sig .tc := ⟨.hbm, 94, rfl⟩
abbrev main_v30 : Ref sig .tc := ⟨.hbm, 95, rfl⟩
abbrev main_c_25 : Ref sig .tc := ⟨.hbm, 96, rfl⟩
abbrev main_v31 : Ref sig .tc := ⟨.hbm, 97, rfl⟩
abbrev main_v32 : Ref sig .tc := ⟨.hbm, 98, rfl⟩
abbrev main_c_26 : Ref sig .tc := ⟨.hbm, 99, rfl⟩
abbrev main_c_27 : Ref sig .tc := ⟨.hbm, 100, rfl⟩
abbrev main_c_28 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩

abbrev nD : Nat := 1
abbrev τ : Topo := Topo.v7x

variable {F : FTy → Type} [FloatOps F]
-- ==== Proof.Body.lean ====
/-
  The kernel body as plain functions of its blocks. `coutOf` is the cache block the body leaves, `yBlk` the output
  block it computes from that cache block, and `run` says that one execution of the body leaves exactly these.
-/
module

public import proofs.«01_k».proof.Proof.Gen.KernelIdeal.Skeleton
public import proofs.«01_k».proof.Proof.Gen.KernelIdeal.Frame
public import Idealize.ShloMosaic.Lib.Tactic
public import Idealize.ShloMosaic.Lib.Tactic.RunNames
public import Idealize.ShloMosaic.Lib.Pipeline.Kit
public import Idealize.ShloMosaic.Lib.Pipeline.ValueKit.Tiles
public import Idealize.ShloMosaic.Lib.VecWindow
public import Idealize.ShloMosaic.Lib.WritesUnit
public import Idealize.ShloMosaic.Lib.Pointwise.TacticCore
public import Idealize.ShloMosaic.Lib.Pointwise.Reshape

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The output block -/

/-- One when the column at tap `w` of the window around `v0` lies in the cache, zero when it does not. -/
def valid (v0 w : BitVec 32) : F .f32 :=
  Scalar.select (Scalar.andi (Scalar.cmpi .sge (Scalar.addi (Scalar.subi v0 3#32) w) 0#32)
    (Scalar.cmpi .slt (Scalar.addi (Scalar.subi v0 3#32) w) 64#32))
    (Scalar.ofBits .f32 0x3F800000#32) (Scalar.ofBits .f32 0x00000000#32)

/-- One tap of the convolution: the cache column, times its validity, times the tap's weights. -/
def tap (s : F .f32) (x : Vec F S64x1x1x64 .f32) (k : Vec F S1x1x64x64 .f32) (acc : FVec F S64x64 .f32) :
    FVec F S64x64 .f32 :=
  addf acc (matmul dot_S64x64_S64x64_S64x64_1_0_0_1_n_n none
    (mulf (shapeCast S64x64 (shapeCast S64x1x64 x shapeCasts_S64x1x1x64_S64x1x64) shapeCasts_S64x1x64_S64x64)
      (broadcast S64x64 s))
    (shapeCast S64x64 k shapeCasts_S1x1x64x64_S64x64) (constant S64x64 .f32 0x00000000#32))

section taps

variable (v0 : BitVec 32) (cb : Vec F S64x4x64x64 .f32) (x3 : Vec F S4x7x64x64 .f32)

/-- The tap of cache row 0 at window column `w`. -/
def tap0 (w : Fin 7) (inb : ∀ a, (![0, w.val, 0, 0] : Fin 4 → ℕ) a + S1x1x64x64.size a ≤ S4x7x64x64.size a) :
    FVec F S64x64 .f32 → FVec F S64x64 .f32 :=
  tap (valid v0 (BitVec.ofNat 32 w.val))
    (View.ld cb (Rect.unit (s := S64x4x64x64) (k0_off2 v0 (BitVec.ofNat 32 w.val)) S64x1x1x64.size (k0_off2_inb v0 (k0_chk2_all v0) w)))
    (View.ld x3 (Rect.unit (s := S4x7x64x64) ![0, w.val, 0, 0] S1x1x64x64.size inb))
/-- The tap of cache row 1 at window column `w`. -/
def tap1 (w : Fin 7) (inb : ∀ a, (![1, w.val, 0, 0] : Fin 4 → ℕ) a + S1x1x64x64.size a ≤ S4x7x64x64.size a) :
    FVec F S64x64 .f32 → FVec F S64x64 .f32 :=
  tap (valid v0 (BitVec.ofNat 32 w.val))
    (View.ld cb (Rect.unit (s := S64x4x64x64) (k0_off3 v0 (BitVec.ofNat 32 w.val)) S64x1x1x64.size (k0_off3_inb v0 (k0_chk2_all v0) w)))
    (View.ld x3 (Rect.unit (s := S4x7x64x64) ![1, w.val, 0, 0] S1x1x64x64.size inb))
/-- The tap of cache row 2 at window column `w`. -/
def tap2 (w : Fin 7) (inb : ∀ a, (![2, w.val, 0, 0] : Fin 4 → ℕ) a + S1x1x64x64.size a ≤ S4x7x64x64.size a) :
    FVec F S64x64 .f32 → FVec F S64x64 .f32 :=
  tap (valid v0 (BitVec.ofNat 32 w.val))
    (View.ld cb (Rect.unit (s := S64x4x64x64) (k0_off4 v0 (BitVec.ofNat 32 w.val)) S64x1x1x64.size (k0_off4_inb v0 (k0_chk2_all v0) w)))
    (View.ld x3 (Rect.unit (s := S4x7x64x64) ![2, w.val, 0, 0] S1x1x64x64.size inb))
/-- The tap of cache row 3 at window column `w`, one of the three the mask keeps. -/
def tap3 (w : Fin 3) (inb : ∀ a, (![3, w.val, 0, 0] : Fin 4 → ℕ) a + S1x1x64x64.size a ≤ S4x7x64x64.size a) :
    FVec F S64x64 .f32 → FVec F S64x64 .f32 :=
  tap (valid v0 (BitVec.ofNat 32 w.val))
    (View.ld cb (Rect.unit (s := S64x4x64x64) (k0_off5 v0 (BitVec.ofNat 32 w.val)) S64x1x1x64.size (k0_off5_inb v0 (k0_chk2_all v0) w)))
    (View.ld x3 (Rect.unit (s := S4x7x64x64) ![3, w.val, 0, 0] S1x1x64x64.size inb))

/-- The accumulator after the first row's seven taps. -/
def acc0 : FVec F S64x64 .f32 :=
  tap0 v0 cb x3 6 inb_S4x7x64x64_S1x1x64x64_0_6_0_0 (tap0 v0 cb x3 5 inb_S4x7x64x64_S1x1x64x64_0_5_0_0
    (tap0 v0 cb x3 4 inb_S4x7x64x64_S1x1x64x64_0_4_0_0 (tap0 v0 cb x3 3 inb_S4x7x64x64_S1x1x64x64_0_3_0_0
      (tap0 v0 cb x3 2 inb_S4x7x64x64_S1x1x64x64_0_2_0_0 (tap0 v0 cb x3 1 inb_S4x7x64x64_S1x1x64x64_0_1_0_0
        (tap0 v0 cb x3 0 inb_S4x7x64x64_S1x1x64x64_0_0_0_0 (broadcast S64x64 (Scalar.ofBits .f32 0x00000000#32 : F .f32))))))))
/-- The accumulator after the second row's seven taps. -/
def acc1 : FVec F S64x64 .f32 :=
  tap1 v0 cb x3 6 inb_S4x7x64x64_S1x1x64x64_1_6_0_0 (tap1 v0 cb x3 5 inb_S4x7x64x64_S1x1x64x64_1_5_0_0
    (tap1 v0 cb x3 4 inb_S4x7x64x64_S1x1x64x64_1_4_0_0 (tap1 v0 cb x3 3 inb_S4x7x64x64_S1x1x64x64_1_3_0_0
      (tap1 v0 cb x3 2 inb_S4x7x64x64_S1x1x64x64_1_2_0_0 (tap1 v0 cb x3 1 inb_S4x7x64x64_S1x1x64x64_1_1_0_0
        (tap1 v0 cb x3 0 inb_S4x7x64x64_S1x1x64x64_1_0_0_0 (acc0 v0 cb x3)))))))
/-- The accumulator after the third row's seven taps. -/
def acc2 : FVec F S64x64 .f32 :=
  tap2 v0 cb x3 6 inb_S4x7x64x64_S1x1x64x64_2_6_0_0 (tap2 v0 cb x3 5 inb_S4x7x64x64_S1x1x64x64_2_5_0_0
    (tap2 v0 cb x3 4 inb_S4x7x64x64_S1x1x64x64_2_4_0_0 (tap2 v0 cb x3 3 inb_S4x7x64x64_S1x1x64x64_2_3_0_0
      (tap2 v0 cb x3 2 inb_S4x7x64x64_S1x1x64x64_2_2_0_0 (tap2 v0 cb x3 1 inb_S4x7x64x64_S1x1x64x64_2_1_0_0
        (tap2 v0 cb x3 0 inb_S4x7x64x64_S1x1x64x64_2_0_0_0 (acc1 v0 cb x3)))))))
/-- The accumulator after the last row's three taps. -/
def acc3 : FVec F S64x64 .f32 :=
  tap3 v0 cb x3 2 inb_S4x7x64x64_S1x1x64x64_3_2_0_0 (tap3 v0 cb x3 1 inb_S4x7x64x64_S1x1x64x64_3_1_0_0
    (tap3 v0 cb x3 0 inb_S4x7x64x64_S1x1x64x64_3_0_0_0 (acc2 v0 cb x3)))

/-- The output block: the 24 taps and the bias. -/
def yBlk (x4 : Vec F S1x64 .f32) : Vec F S64x64 .f32 :=
  addf (acc3 v0 cb x3) (broadcastTo S64x64 (shapeCast S1x64 x4 shapeCasts_S1x64_S1x64) broadcasts_S1x64_S64x64)

end taps

/-! ## The cache block -/

/-- The cache block with the input written at column `w` of its last row. -/
def coutUpd (w : BitVec 32) (x1 : Vec F S64x64 .f32) (x2 : Vec F S64x4x64x64 .f32) : Vec F S64x4x64x64 .f32 :=
  fun i => if (i 1).val = 3 ∧ (i 2).val = w.toNat then x1 (ix2 (i 0 : Fin 64) (i 3 : Fin 64)) else x2 i

/-- The cache block with the input written at column 63 of its last row, then moved up one row over a row of zeros. -/
def coutShift (x1 : Vec F S64x64 .f32) (x2 : Vec F S64x4x64x64 .f32) : Vec F S64x4x64x64 .f32 :=
  fun i => if h : (i 1).val < 3 then
      if (i 1).val = 2 ∧ (i 2).val = 63 then x1 (ix2 (i 0 : Fin 64) (i 3 : Fin 64))
      else x2 (ix4 (i 0 : Fin 64) (⟨(i 1).val + 1, by omega⟩ : Fin 4) (i 2 : Fin 64) (i 3 : Fin 64))
    else Scalar.ofBits .f32 0x00000000#32

/-- The cache block the body leaves, by the two decisions it is given. -/
def coutOf (x0 : Vec F S4 .i32) (x1 : Vec F S64x64 .f32) (x2 : Vec F S64x4x64x64 .f32) : Vec F S64x4x64x64 .f32 :=
  if (x0 (ix1 3) : BitVec 32) = 1#32 then coutShift x1 x2
  else if (x0 (ix1 2) : BitVec 32) = 1#32 then coutUpd (x0 (ix1 1)) x1 x2 else x2

/-- The stored input row at an index. -/
theorem pay2_apply (x : Vec F S64x64 .f32) (b : Fin 64) (z z' : Fin 1) (f : Fin 64) :
    k0_pay2 x (ix4 b z z' f) = x (ix2 b f) := by
  unfold k0_pay2
  pointwise

/-- The moved third row at an index. -/
theorem pay3_apply (r : Vec F S64x1x64x64 .f32) (x : Vec F S64x64 .f32) (b : Fin 64) (z : Fin 1) (w f : Fin 64) :
    k0_pay3 r x (ix4 b z w f) = if w.val = 63 then x (ix2 b f) else r (ix4 b 0 w f) := by
  unfold k0_pay3
  pointwise
  have hw : w.val < 64 := w.isLt
  have hc : IntOp.cmpi CmpIPredicate.eq (BitVec.ofNat 32 w.val) 63#32 = if w.val = 63 then 1#1 else 0#1 := by
    revert w; decide +kernel
  rw [hc]
  split <;> rfl

/-- The zeros at an index. -/
theorem pay4_apply (b : Fin 64) (z : Fin 1) (w f : Fin 64) :
    k0_pay4 (F := F) (ix4 b z w f) = Scalar.ofBits .f32 0x00000000#32 := by
  unfold k0_pay4
  pointwise

/-- The whole block stored, then the input stored into its last row: the block with the input written. -/
theorem read_upd (v : View sig .tc .vmem S64x4x64x64 .f32) (f : v.ty.Contents (Elt F)) (w : BitVec 32)
    (h1 : ∀ a, (k0_off1 w) a + S64x1x1x64.size a ≤ S64x4x64x64.size a)
    (h2 : ∀ a, (![0, 0, 0, 0] : Fin 4 → ℕ) a + S64x4x64x64.size a ≤ S64x4x64x64.size a)
    (x1 : Vec F S64x64 .f32) (x2 : Vec F S64x4x64x64 .f32) :
    View.read (Elt F) v (v.writes (Elt F) f [⟨Rect.unit (s := S64x4x64x64) (k0_off1 w) S64x1x1x64.size h1, k0_pay2 x1⟩,
      ⟨Rect.unit (s := S64x4x64x64) ![0, 0, 0, 0] S64x4x64x64.size h2, x2⟩]) = coutUpd w x1 x2 := by
  funext i
  unfold coutUpd
  have heq : k0_off1 w = ![0, 3, w.toNat, 0] := rfl
  split
  next h =>
    obtain ⟨ha, hb⟩ := h
    rw [View.read_writes_cons_unit_of_mem v f h1 _ _ i (ix4 (i 0 : Fin 64) (0 : Fin 1) (0 : Fin 1) (i 3 : Fin 64)) heq ?_]
    · exact pay2_apply x1 _ _ _ _
    · intro a
      fin_cases a
      · show (i 0).val = 0 + (i 0).val; omega
      · show (i 1).val = 3 + 0; omega
      · show (i 2).val = w.toNat + 0; omega
      · show (i 3).val = 0 + (i 3).val; omega
  next h =>
    have hR : View.read (Elt F) v (v.writes (Elt F) f [⟨Rect.unit (s := S64x4x64x64) ![0, 0, 0, 0] S64x4x64x64.size h2, x2⟩]) i = x2 i :=
      congrFun (View.read_writes_full v f h2 x2 []) i
    by_cases ha : (i 1).val = 3
    · have hb : (i 2).val ≠ w.toNat := fun hb => h ⟨ha, hb⟩
      rw [View.read_writes_cons_unit_of_not_mem v f h1 _ _ i heq (2 : Fin 4)
        (show (i 2).val < w.toNat ∨ w.toNat + 1 ≤ (i 2).val by omega)]
      exact hR
    · have h4 : (i 1).val < 4 := (i 1).isLt
      rw [View.read_writes_cons_unit_of_not_mem v f h1 _ _ i heq (1 : Fin 4)
        (show (i 1).val < 3 ∨ 3 + 1 ≤ (i 1).val by omega)]
      exact hR

/-- The three stores of the move, read back. -/
theorem read_shift (v : View sig .tc .vmem S64x4x64x64 .f32) (f : v.ty.Contents (Elt F)) (x1 : Vec F S64x64 .f32) (x2 : Vec F S64x4x64x64 .f32)
    (h3 : ∀ a, (![0, 3, 0, 0] : Fin 4 → ℕ) a + S64x1x64x64.size a ≤ S64x4x64x64.size a)
    (h2 : ∀ a, (![0, 2, 0, 0] : Fin 4 → ℕ) a + S64x1x64x64.size a ≤ S64x4x64x64.size a)
    (h3' : ∀ a, (![0, 3, 0, 0] : Fin 4 → ℕ) a + S64x1x64x64.size a ≤ S64x4x64x64.size a)
    (h0 : ∀ a, (![0, 0, 0, 0] : Fin 4 → ℕ) a + S64x2x64x64.size a ≤ S64x4x64x64.size a)
    (h1 : ∀ a, (![0, 1, 0, 0] : Fin 4 → ℕ) a + S64x2x64x64.size a ≤ S64x4x64x64.size a) :
    View.read (Elt F) v (v.writes (Elt F) f [⟨Rect.unit (s := S64x4x64x64) ![0, 3, 0, 0] S64x1x64x64.size h3, k0_pay4⟩,
      ⟨Rect.unit (s := S64x4x64x64) ![0, 2, 0, 0] S64x1x64x64.size h2,
        k0_pay3 (View.ld x2 (Rect.unit (s := S64x4x64x64) ![0, 3, 0, 0] S64x1x64x64.size h3')) x1⟩,
      ⟨Rect.unit (s := S64x4x64x64) ![0, 0, 0, 0] S64x2x64x64.size h0,
        View.ld x2 (Rect.unit (s := S64x4x64x64) ![0, 1, 0, 0] S64x2x64x64.size h1)⟩]) = coutShift x1 x2 := by
  funext i
  unfold coutShift
  have h4 : (i 1).val < 4 := (i 1).isLt
  split
  next h =>
    rw [View.read_writes_cons_unit_of_not_mem v f h3 _ _ i rfl (1 : Fin 4)
      (show (i 1).val < 3 ∨ 3 + 1 ≤ (i 1).val from Or.inl h)]
    by_cases hr : (i 1).val = 2
    · rw [View.read_writes_cons_unit_of_mem v f h2 _ _ i (ix4 (i 0 : Fin 64) (0 : Fin 1) (i 2 : Fin 64) (i 3 : Fin 64)) rfl ?_]
      · refine (pay3_apply _ _ _ _ _ _).trans ?_
        by_cases hc : (i 2).val = 63
        · rw [if_pos hc, if_pos ⟨hr, hc⟩]
        · rw [if_neg hc, if_neg fun h => hc h.2]
          refine View.ld_unit_apply_of x2 _ _ h3' _ _ fun a => ?_
          fin_cases a
          · show (i 0).val = 0 + (i 0).val; omega
          · show (i 1).val + 1 = 3 + 0; omega
          · show (i 2).val = 0 + (i 2).val; omega
          · show (i 3).val = 0 + (i 3).val; omega
      · intro a
        fin_cases a
        · show (i 0).val = 0 + (i 0).val; omega
        · show (i 1).val = 2 + 0; omega
        · show (i 2).val = 0 + (i 2).val; omega
        · show (i 3).val = 0 + (i 3).val; omega
    · have hlt : (i 1).val < 2 := by omega
      rw [View.read_writes_cons_unit_of_not_mem v f h2 _ _ i rfl (1 : Fin 4)
        (show (i 1).val < 2 ∨ 2 + 1 ≤ (i 1).val from Or.inl hlt)]
      rw [View.read_writes_cons_unit_of_mem v f h0 _ _ i
        (ix4 (i 0 : Fin 64) (⟨(i 1).val, hlt⟩ : Fin 2) (i 2 : Fin 64) (i 3 : Fin 64)) rfl ?_]
      · rw [if_neg fun h => hr h.1]
        refine View.ld_unit_apply_of x2 _ _ h1 _ _ fun a => ?_
        fin_cases a
        · show (i 0).val = 0 + (i 0).val; omega
        · show (i 1).val + 1 = 1 + (i 1).val; omega
        · show (i 2).val = 0 + (i 2).val; omega
        · show (i 3).val = 0 + (i 3).val; omega
      · intro a
        fin_cases a
        · show (i 0).val = 0 + (i 0).val; omega
        · show (i 1).val = 0 + (i 1).val; omega
        · show (i 2).val = 0 + (i 2).val; omega
        · show (i 3).val = 0 + (i 3).val; omega
  next h =>
    rw [View.read_writes_cons_unit_of_mem v f h3 _ _ i (ix4 (i 0 : Fin 64) (0 : Fin 1) (i 2 : Fin 64) (i 3 : Fin 64)) rfl ?_]
    · exact pay4_apply _ _ _ _
    · intro a
      fin_cases a
      · show (i 0).val = 0 + (i 0).val; omega
      · show (i 1).val = 3 + 0; omega
      · show (i 2).val = 0 + (i 2).val; omega
      · show (i 3).val = 0 + (i 3).val; omega

/-- The one side condition the body asks of its words: the update column lies in the row. -/
theorem chk1_of (w1 w2 w3 : BitVec 32) (h : (k0_cond2 w2 = 1#1 → w1.toNat < 64)) : k0_chk1 w1 w2 w3 := by
  intro _ h2 a
  have := h h2
  fin_cases a
  · show 0 + 64 ≤ 64; omega
  · show 3 + 1 ≤ 4; omega
  · show w1.toNat + 1 ≤ 64; omega
  · show 0 + 64 ≤ 64; omega

/-- A word of the scalars block, as the body loads it. -/
theorem word_read (arg1 : Memref sig .tc .smem S4 .i32) (harg1 : arg1.IsWhole) (x0 : Vec F S4 .i32) (j : Fin 4)
    (inb : ∀ a, (![j.val] : Fin 1 → ℕ) a + S1.size a ≤ S4.size a) (x : (Rect.unit (s := S4) ![j.val] S1.size inb).shape.Idx) :
    arg1.view.readAt (Elt F) (Rect.unit (s := S4) ![j.val] S1.size inb).toLoadRect (harg1.unread x0) x = x0 (ix1 j) := by
  rw [View.readAt_eq_ld, harg1.read_unread]
  refine View.ld_unit_apply_of x0 _ _ inb x (ix1 j) fun a => ?_
  obtain rfl : a = 0 := Subsingleton.elim _ _
  have h : (x 0).val < 1 := (x 0).isLt
  show j.val = j.val + (x 0).val
  omega

/-- One execution of the body at the blocks `x0` to `x4`, which leaves the cache block `cb` and the output block
computed from it. -/
def Leaves (x0 : Vec F S4 .i32) (x1 : Vec F S64x64 .f32) (x2 : Vec F S64x4x64x64 .f32) (x3 : Vec F S4x7x64x64 .f32)
    (x4 : Vec F S1x64 .f32) (cb : Vec F S64x4x64x64 .f32) : Prop :=
  ∀ (c : Dev nD) (i : grid0.Coords) (arg1 : Memref sig .tc .smem S4 .i32) (harg1 : arg1.IsWhole) (arg2 : Memref sig .tc .vmem S64x64 .f32) (harg2 : arg2.IsWhole) (arg3 : Memref sig .tc .vmem S64x4x64x64 .f32) (harg3 : arg3.IsWhole) (arg4 : Memref sig .tc .vmem S4x7x64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S64x4x64x64 .f32) (harg7 : arg7.IsWhole),
    ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yBlk (x0 (ix1 0)) cb x3 x4) ∗ owns (c : Thread nD τ) arg7 fullShare cb) -∗ K ⟨⟩))
          ⊢ wp frame (wpE (defs₀ (F := F)) Variants.none c none) E (cc0__fmc_kernel i arg1 harg1 arg2 harg2 arg3 harg3 arg4 harg4 arg5 harg5 arg6 harg6 arg7 harg7) K

/-- A load of a whole block reads the block. -/
theorem ld_whole4 (X : Vec F S64x4x64x64 .f32) (inb : ∀ a, (![0, 0, 0, 0] : Fin 4 → ℕ) a + S64x4x64x64.size a ≤ S64x4x64x64.size a) :
    View.ld X (Rect.unit (s := S64x4x64x64) ![0, 0, 0, 0] S64x4x64x64.size inb) = X := by
  funext y
  refine View.ld_unit_apply_of X _ _ inb y y fun a => ?_
  fin_cases a <;> exact (Nat.zero_add _).symm
/-- A load of a whole block reads the block. -/
theorem ld_whole2 (X : Vec F S64x64 .f32) (inb : ∀ a, (![0, 0] : Fin 2 → ℕ) a + S64x64.size a ≤ S64x64.size a) :
    View.ld X (Rect.unit (s := S64x64) ![0, 0] S64x64.size inb) = X := by
  funext y
  refine View.ld_unit_apply_of X _ _ inb y y fun a => ?_
  fin_cases a <;> exact (Nat.zero_add _).symm
/-- A load of a whole block reads the block. -/
theorem ld_whole_bias (X : Vec F S1x64 .f32) (inb : ∀ a, (![0, 0] : Fin 2 → ℕ) a + S1x64.size a ≤ S1x64.size a) :
    View.ld X (Rect.unit (s := S1x64) ![0, 0] S1x64.size inb) = X := by
  funext y
  refine View.ld_unit_apply_of X _ _ inb y y fun a => ?_
  fin_cases a <;> exact (Nat.zero_add _).symm

set_option maxHeartbeats 2000000 in
/-- No update: the cache block is left as it is. -/
theorem run_keep (x0 : Vec F S4 .i32) (x1 : Vec F S64x64 .f32) (x2 : Vec F S64x4x64x64 .f32) (x3 : Vec F S4x7x64x64 .f32)
    (x4 : Vec F S1x64 .f32) (h2 : (x0 (ix1 2) : BitVec 32) = 0#32) (h3 : (x0 (ix1 3) : BitVec 32) = 0#32) : Leaves x0 x1 x2 x3 x4 x2 := by
  intro c i arg1 harg1 arg2 harg2 arg3 harg3 arg4 harg4 arg5 harg5 arg6 harg6 arg7 harg7
  have e0 : arg1.view.readAt (Elt F) (Rect.unit (s := S4) ![0] S1.size inb_S4_S1_0).toLoadRect (harg1.unread x0) (Shape.Idx.first (numel1_S1.symm ▸ Nat.one_pos)) = x0 (ix1 0) := word_read arg1 harg1 x0 0 _ _
  have e1 : arg1.view.readAt (Elt F) (Rect.unit (s := S4) ![1] S1.size inb_S4_S1_1).toLoadRect (harg1.unread x0) (Shape.Idx.first (numel1_S1.symm ▸ Nat.one_pos)) = x0 (ix1 1) := word_read arg1 harg1 x0 1 _ _
  have e2 : arg1.view.readAt (Elt F) (Rect.unit (s := S4) ![2] S1.size inb_S4_S1_2).toLoadRect (harg1.unread x0) (Shape.Idx.first (numel1_S1.symm ▸ Nat.one_pos)) = x0 (ix1 2) := word_read arg1 harg1 x0 2 _ _
  have e3 : arg1.view.readAt (Elt F) (Rect.unit (s := S4) ![3] S1.size inb_S4_S1_3).toLoadRect (harg1.unread x0) (Shape.Idx.first (numel1_S1.symm ▸ Nat.one_pos)) = x0 (ix1 3) := word_read arg1 harg1 x0 3 _ _
  have hc0 :  k0_cond1 (arg1.view.readAt (Elt F) (Rect.unit (s := S4) ![3] S1.size inb_S4_S1_3).toLoadRect (harg1.unread x0) (Shape.Idx.first (numel1_S1.symm ▸ Nat.one_pos))) = 1#1 := by rw [e3, h3]; decide
  have hc2 : ¬ (Scalar.cmpi .ne (Scalar.extui (Scalar.cmpi .eq (arg1.view.readAt (Elt F) (Rect.unit (s := S4) ![3] S1.size inb_S4_S1_3).toLoadRect (harg1.unread x0) (Shape.Idx.first (numel1_S1.symm ▸ Nat.one_pos))) 1#32)) 0#32) = 1#1 := by rw [e3, h3]; decide
  have hc1 : ¬ k0_cond2 (arg1.view.readAt (Elt F) (Rect.unit (s := S4) ![2] S1.size inb_S4_S1_2).toLoadRect (harg1.unread x0) (Shape.Idx.first (numel1_S1.symm ▸ Nat.one_pos))) = 1#1 := by rw [e2, h2]; decide
  have k0_hw1 : k0_chk1 (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) := by
    rw [e1, e2, e3]
    exact chk1_of _ _ _ (by rw [h2]; exact fun h => absurd h (by decide))
  have hG : View.read (Elt F) arg7.view (arg7.view.writes (Elt F) arg7.view.junk [⟨Rect.unit (s := S64x4x64x64) ![0, 0, 0, 0] S64x4x64x64.size inb_S64x4x64x64_S64x4x64x64_0_0_0_0, (View.readAt (Elt F) arg3.view (Rect.unit (s := S64x4x64x64) ![0, 0, 0, 0] S64x4x64x64.size inb_S64x4x64x64_S64x4x64x64_0_0_0_0).toLoadRect (harg3.unread x2))⟩]) = x2 := by
    rw [View.read_writes_full, View.readAt_eq_ld, harg3.read_unread, ld_whole4]
  intro E K
  simp only [cc0__fmc_kernel_eq_skeleton]; unfold cc0__fmc_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1 | sl_exact hc2 | sl_exact k0_hw1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [View.read_writes_full]
    sl_unfold_run_names
    refine Eq.trans (b := yBlk (arg1.view.readAt (Elt F) (Rect.unit (s := S4) ![0] S1.size inb_S4_S1_0).toLoadRect (harg1.unread x0) (Shape.Idx.first (numel1_S1.symm ▸ Nat.one_pos))) (View.read (Elt F) arg7.view (arg7.view.writes (Elt F) arg7.view.junk [⟨Rect.unit (s := S64x4x64x64) ![0, 0, 0, 0] S64x4x64x64.size inb_S64x4x64x64_S64x4x64x64_0_0_0_0, (View.readAt (Elt F) arg3.view (Rect.unit (s := S64x4x64x64) ![0, 0, 0, 0] S64x4x64x64.size inb_S64x4x64x64_S64x4x64x64_0_0_0_0).toLoadRect (harg3.unread x2))⟩]))
      (View.read (Elt F) arg4.view (harg4.unread x3))
      (View.ld (View.read (Elt F) arg5.view (harg5.unread x4)) (Rect.unit (s := S1x64) ![0, 0] S1x64.size inb_S1x64_S1x64_0_0))) rfl ?_
    rw [e0, hG, hf3, hf4, ld_whole_bias]
  iexists _; isplitr; swap; · iexact H6
  ipureintro
  sl_unfold_run_names
  exact hG

set_option maxHeartbeats 2000000 in
/-- The update: the input is written into the last row. -/
theorem run_upd (x0 : Vec F S4 .i32) (x1 : Vec F S64x64 .f32) (x2 : Vec F S64x4x64x64 .f32) (x3 : Vec F S4x7x64x64 .f32)
    (x4 : Vec F S1x64 .f32) (h2 : (x0 (ix1 2) : BitVec 32) = 1#32) (h3 : (x0 (ix1 3) : BitVec 32) = 0#32)
    (h1 : (x0 (ix1 1) : BitVec 32).toNat < 64) : Leaves x0 x1 x2 x3 x4 (coutUpd (x0 (ix1 1)) x1 x2) := by
  intro c i arg1 harg1 arg2 harg2 arg3 harg3 arg4 harg4 arg5 harg5 arg6 harg6 arg7 harg7
  have e0 : arg1.view.readAt (Elt F) (Rect.unit (s := S4) ![0] S1.size inb_S4_S1_0).toLoadRect (harg1.unread x0) (Shape.Idx.first (numel1_S1.symm ▸ Nat.one_pos)) = x0 (ix1 0) := word_read arg1 harg1 x0 0 _ _
  have e1 : arg1.view.readAt (Elt F) (Rect.unit (s := S4) ![1] S1.size inb_S4_S1_1).toLoadRect (harg1.unread x0) (Shape.Idx.first (numel1_S1.symm ▸ Nat.one_pos)) = x0 (ix1 1) := word_read arg1 harg1 x0 1 _ _
  have e2 : arg1.view.readAt (Elt F) (Rect.unit (s := S4) ![2] S1.size inb_S4_S1_2).toLoadRect (harg1.unread x0) (Shape.Idx.first (numel1_S1.symm ▸ Nat.one_pos)) = x0 (ix1 2) := word_read arg1 harg1 x0 2 _ _
  have e3 : arg1.view.readAt (Elt F) (Rect.unit (s := S4) ![3] S1.size inb_S4_S1_3).toLoadRect (harg1.unread x0) (Shape.Idx.first (numel1_S1.symm ▸ Nat.one_pos)) = x0 (ix1 3) := word_read arg1 harg1 x0 3 _ _
  have hc0 :  k0_cond1 (arg1.view.readAt (Elt F) (Rect.unit (s := S4) ![3] S1.size inb_S4_S1_3).toLoadRect (harg1.unread x0) (Shape.Idx.first (numel1_S1.symm ▸ Nat.one_pos))) = 1#1 := by rw [e3, h3]; decide
  have hc2 : ¬ (Scalar.cmpi .ne (Scalar.extui (Scalar.cmpi .eq (arg1.view.readAt (Elt F) (Rect.unit (s := S4) ![3] S1.size inb_S4_S1_3).toLoadRect (harg1.unread x0) (Shape.Idx.first (numel1_S1.symm ▸ Nat.one_pos))) 1#32)) 0#32) = 1#1 := by rw [e3, h3]; decide
  have hc1 : k0_cond2 (arg1.view.readAt (Elt F) (Rect.unit (s := S4) ![2] S1.size inb_S4_S1_2).toLoadRect (harg1.unread x0) (Shape.Idx.first (numel1_S1.symm ▸ Nat.one_pos))) = 1#1 := by rw [e2, h2]; decide
  have k0_hw1 : k0_chk1 (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) := by
    rw [e1, e2, e3]
    exact chk1_of _ _ _ (fun _ => h1)
  have hG : View.read (Elt F) arg7.view (arg7.view.writes (Elt F) arg7.view.junk [⟨Rect.unit (s := S64x4x64x64) (k0_off1 (arg1.view.readAt (Elt F) (Rect.unit (s := S4) ![1] S1.size inb_S4_S1_1).toLoadRect (harg1.unread x0) (Shape.Idx.first (numel1_S1.symm ▸ Nat.one_pos)))) S64x1x1x64.size (k0_off1_inb _ _ _ k0_hw1 hc0 hc1), k0_pay2 (View.readAt (Elt F) arg2.view (Rect.unit (s := S64x64) ![0, 0] S64x64.size inb_S64x64_S64x64_0_0).toLoadRect (harg2.unread x1))⟩, ⟨Rect.unit (s := S64x4x64x64) ![0, 0, 0, 0] S64x4x64x64.size inb_S64x4x64x64_S64x4x64x64_0_0_0_0, (View.readAt (Elt F) arg3.view (Rect.unit (s := S64x4x64x64) ![0, 0, 0, 0] S64x4x64x64.size inb_S64x4x64x64_S64x4x64x64_0_0_0_0).toLoadRect (harg3.unread x2))⟩]) = coutUpd (x0 (ix1 1)) x1 x2 := by
    refine (read_upd arg7.view _ _ _ _ _ _).trans ?_
    rw [e1, View.readAt_eq_ld, View.readAt_eq_ld, harg2.read_unread, harg3.read_unread, ld_whole4, ld_whole2]
  intro E K
  simp only [cc0__fmc_kernel_eq_skeleton]; unfold cc0__fmc_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1 | sl_exact hc2 | sl_exact k0_hw1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [View.read_writes_full]
    sl_unfold_run_names
    refine Eq.trans (b := yBlk (arg1.view.readAt (Elt F) (Rect.unit (s := S4) ![0] S1.size inb_S4_S1_0).toLoadRect (harg1.unread x0) (Shape.Idx.first (numel1_S1.symm ▸ Nat.one_pos))) (View.read (Elt F) arg7.view (arg7.view.writes (Elt F) arg7.view.junk [⟨Rect.unit (s := S64x4x64x64) (k0_off1 (arg1.view.readAt (Elt F) (Rect.unit (s := S4) ![1] S1.size inb_S4_S1_1).toLoadRect (harg1.unread x0) (Shape.Idx.first (numel1_S1.symm ▸ Nat.one_pos)))) S64x1x1x64.size (k0_off1_inb _ _ _ k0_hw1 hc0 hc1), k0_pay2 (View.readAt (Elt F) arg2.view (Rect.unit (s := S64x64) ![0, 0] S64x64.size inb_S64x64_S64x64_0_0).toLoadRect (harg2.unread x1))⟩, ⟨Rect.unit (s := S64x4x64x64) ![0, 0, 0, 0] S64x4x64x64.size inb_S64x4x64x64_S64x4x64x64_0_0_0_0, (View.readAt (Elt F) arg3.view (Rect.unit (s := S64x4x64x64) ![0, 0, 0, 0] S64x4x64x64.size inb_S64x4x64x64_S64x4x64x64_0_0_0_0).toLoadRect (harg3.unread x2))⟩]))
      (View.read (Elt F) arg4.view (harg4.unread x3))
      (View.ld (View.read (Elt F) arg5.view (harg5.unread x4)) (Rect.unit (s := S1x64) ![0, 0] S1x64.size inb_S1x64_S1x64_0_0))) rfl ?_
    rw [e0, hG, hf3, hf4, ld_whole_bias]
  iexists _; isplitr; swap; · iexact H6
  ipureintro
  sl_unfold_run_names
  exact hG

set_option maxHeartbeats 2000000 in
/-- The update at the end of a row: the input is written and the rows move up. -/
theorem run_shift (x0 : Vec F S4 .i32) (x1 : Vec F S64x64 .f32) (x2 : Vec F S64x4x64x64 .f32) (x3 : Vec F S4x7x64x64 .f32)
    (x4 : Vec F S1x64 .f32) (h3 : (x0 (ix1 3) : BitVec 32) = 1#32)
    (h1 : (x0 (ix1 1) : BitVec 32).toNat < 64) : Leaves x0 x1 x2 x3 x4 (coutShift x1 x2) := by
  intro c i arg1 harg1 arg2 harg2 arg3 harg3 arg4 harg4 arg5 harg5 arg6 harg6 arg7 harg7
  have e0 : arg1.view.readAt (Elt F) (Rect.unit (s := S4) ![0] S1.size inb_S4_S1_0).toLoadRect (harg1.unread x0) (Shape.Idx.first (numel1_S1.symm ▸ Nat.one_pos)) = x0 (ix1 0) := word_read arg1 harg1 x0 0 _ _
  have e1 : arg1.view.readAt (Elt F) (Rect.unit (s := S4) ![1] S1.size inb_S4_S1_1).toLoadRect (harg1.unread x0) (Shape.Idx.first (numel1_S1.symm ▸ Nat.one_pos)) = x0 (ix1 1) := word_read arg1 harg1 x0 1 _ _
  have e2 : arg1.view.readAt (Elt F) (Rect.unit (s := S4) ![2] S1.size inb_S4_S1_2).toLoadRect (harg1.unread x0) (Shape.Idx.first (numel1_S1.symm ▸ Nat.one_pos)) = x0 (ix1 2) := word_read arg1 harg1 x0 2 _ _
  have e3 : arg1.view.readAt (Elt F) (Rect.unit (s := S4) ![3] S1.size inb_S4_S1_3).toLoadRect (harg1.unread x0) (Shape.Idx.first (numel1_S1.symm ▸ Nat.one_pos)) = x0 (ix1 3) := word_read arg1 harg1 x0 3 _ _
  have hc0 : ¬ k0_cond1 (arg1.view.readAt (Elt F) (Rect.unit (s := S4) ![3] S1.size inb_S4_S1_3).toLoadRect (harg1.unread x0) (Shape.Idx.first (numel1_S1.symm ▸ Nat.one_pos))) = 1#1 := by rw [e3, h3]; decide
  have hc2 : (Scalar.cmpi .ne (Scalar.extui (Scalar.cmpi .eq (arg1.view.readAt (Elt F) (Rect.unit (s := S4) ![3] S1.size inb_S4_S1_3).toLoadRect (harg1.unread x0) (Shape.Idx.first (numel1_S1.symm ▸ Nat.one_pos))) 1#32)) 0#32) = 1#1 := by rw [e3, h3]; decide
  have k0_hw1 : k0_chk1 (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) := by
    rw [e1, e2, e3]
    exact chk1_of _ _ _ (fun _ => h1)
  have hG : View.read (Elt F) arg7.view (arg7.view.writes (Elt F) arg7.view.junk [⟨(Rect.unit (s := S64x4x64x64) ![0, 3, 0, 0] S64x1x64x64.size inb_S64x4x64x64_S64x1x64x64_0_3_0_0), k0_pay4⟩, ⟨(Rect.unit (s := S64x4x64x64) ![0, 2, 0, 0] S64x1x64x64.size inb_S64x4x64x64_S64x1x64x64_0_2_0_0), k0_pay3 (View.readAt (Elt F) arg3.view (Rect.unit (s := S64x4x64x64) ![0, 3, 0, 0] S64x1x64x64.size inb_S64x4x64x64_S64x1x64x64_0_3_0_0).toLoadRect (harg3.unread x2)) (View.readAt (Elt F) arg2.view (Rect.unit (s := S64x64) ![0, 0] S64x64.size inb_S64x64_S64x64_0_0).toLoadRect (harg2.unread x1))⟩, ⟨(Rect.unit (s := S64x4x64x64) ![0, 0, 0, 0] S64x2x64x64.size inb_S64x4x64x64_S64x2x64x64_0_0_0_0), (View.readAt (Elt F) arg3.view (Rect.unit (s := S64x4x64x64) ![0, 1, 0, 0] S64x2x64x64.size inb_S64x4x64x64_S64x2x64x64_0_1_0_0).toLoadRect (harg3.unread x2))⟩]) = coutShift x1 x2 := by
    rw [View.readAt_eq_ld, View.readAt_eq_ld, View.readAt_eq_ld, harg2.read_unread, harg3.read_unread, ld_whole2]
    exact read_shift arg7.view _ x1 x2 _ _ _ _ _
  intro E K
  simp only [cc0__fmc_kernel_eq_skeleton]; unfold cc0__fmc_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc2 | sl_exact k0_hw1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    rw [View.read_writes_full]
    sl_unfold_run_names
    refine Eq.trans (b := yBlk (arg1.view.readAt (Elt F) (Rect.unit (s := S4) ![0] S1.size inb_S4_S1_0).toLoadRect (harg1.unread x0) (Shape.Idx.first (numel1_S1.symm ▸ Nat.one_pos))) (View.read (Elt F) arg7.view (arg7.view.writes (Elt F) arg7.view.junk [⟨(Rect.unit (s := S64x4x64x64) ![0, 3, 0, 0] S64x1x64x64.size inb_S64x4x64x64_S64x1x64x64_0_3_0_0), k0_pay4⟩, ⟨(Rect.unit (s := S64x4x64x64) ![0, 2, 0, 0] S64x1x64x64.size inb_S64x4x64x64_S64x1x64x64_0_2_0_0), k0_pay3 (View.readAt (Elt F) arg3.view (Rect.unit (s := S64x4x64x64) ![0, 3, 0, 0] S64x1x64x64.size inb_S64x4x64x64_S64x1x64x64_0_3_0_0).toLoadRect (harg3.unread x2)) (View.readAt (Elt F) arg2.view (Rect.unit (s := S64x64) ![0, 0] S64x64.size inb_S64x64_S64x64_0_0).toLoadRect (harg2.unread x1))⟩, ⟨(Rect.unit (s := S64x4x64x64) ![0, 0, 0, 0] S64x2x64x64.size inb_S64x4x64x64_S64x2x64x64_0_0_0_0), (View.readAt (Elt F) arg3.view (Rect.unit (s := S64x4x64x64) ![0, 1, 0, 0] S64x2x64x64.size inb_S64x4x64x64_S64x2x64x64_0_1_0_0).toLoadRect (harg3.unread x2))⟩]))
      (View.read (Elt F) arg4.view (harg4.unread x3))
      (View.ld (View.read (Elt F) arg5.view (harg5.unread x4)) (Rect.unit (s := S1x64) ![0, 0] S1x64.size inb_S1x64_S1x64_0_0))) rfl ?_
    rw [e0, hG, hf3, hf4, ld_whole_bias]
  iexists _; isplitr; swap; · iexact H6
  ipureintro
  sl_unfold_run_names
  exact hG

/-- The body leaves the cache block `coutOf` and the output block computed from it, the two decisions being words 0 or
1 and the update column inside the row. -/
theorem run (x0 : Vec F S4 .i32) (x1 : Vec F S64x64 .f32) (x2 : Vec F S64x4x64x64 .f32) (x3 : Vec F S4x7x64x64 .f32)
    (x4 : Vec F S1x64 .f32) (h1 : (x0 (ix1 1) : BitVec 32).toNat < 64)
    (h2 : (x0 (ix1 2) : BitVec 32) = 0#32 ∨ (x0 (ix1 2) : BitVec 32) = 1#32)
    (h3 : (x0 (ix1 3) : BitVec 32) = 0#32 ∨ (x0 (ix1 3) : BitVec 32) = 1#32) :
    Leaves x0 x1 x2 x3 x4 (coutOf x0 x1 x2) := by
  unfold coutOf
  rcases h3 with h3 | h3
  · rcases h2 with h2 | h2
    · rw [if_neg (by rw [h3]; show ¬ ((0#32 : BitVec 32) = 1#32); decide), if_neg (by rw [h2]; show ¬ ((0#32 : BitVec 32) = 1#32); decide)]
      exact run_keep x0 x1 x2 x3 x4 h2 h3
    · rw [if_neg (by rw [h3]; show ¬ ((0#32 : BitVec 32) = 1#32); decide), if_pos h2]
      exact run_upd x0 x1 x2 x3 x4 h2 h3 h1
  · rw [if_pos h3]
    exact run_shift x0 x1 x2 x3 x4 h3 h1

end Cert.KernelIdeal.Body

end
-- ==== Proof.Words.lean ====
/-
  The index arithmetic both programs do on one 32-bit word: the floor remainder by 64 as jax prints it, and the two
  decisions made of it.
-/
module

public import Idealize.ShloMosaic.Lib.Tactic
public import Idealize.ShloMosaic.Lib.WordCmp
public import Idealize.ShloMosaic.Lib.WordArith

@[expose] public section

namespace Cert.Words

open Idealize.ShloMosaic

/-- The divisor as jax prints it: 64, or 1 were it zero. -/
def div64 : BitVec 32 := Scalar.select (IntOp.cmpi .eq (64#32) 0#32) (1#32) (64#32)

theorem div64_eq : div64 = 64#32 := by decide +kernel

/-- The remainder by 64 with the divisor's sign, as jax prints it: the truncated remainder, plus the divisor where the
two signs differ. -/
def rem64 (x : BitVec 32) : BitVec 32 :=
  Scalar.select
    (IntOp.andi
      (IntOp.cmpi .ne (IntOp.cmpi .slt (IntOp.remsi .host x div64) 0#32) (IntOp.cmpi .slt div64 0#32))
      (IntOp.cmpi .ne (IntOp.remsi .host x div64) 0#32))
    (IntOp.addi (IntOp.remsi .host x div64) div64) (IntOp.remsi .host x div64)

theorem remsi_64 (x : BitVec 32) : IntOp.remsi .host x 64#32 = x.srem 64#32 := by
  unfold IntOp.remsi
  rw [if_neg]
  unfold IntOp.SDivCorner
  rintro (h | ⟨_, h⟩)
  · exact absurd h (by decide)
  · exact absurd h (by decide)

/-- It is the remainder of the word's number. -/
theorem rem64_toNat (x : BitVec 32) : (rem64 x).toNat = x.toNat % 64 := by
  unfold rem64
  rw [div64_eq, remsi_64]
  have hr : (x.srem 64#32).toInt = x.toInt.tmod 64 := by
    rw [BitVec.toInt_srem]; rfl
  rw [Int.tmod_eq_emod] at hr
  have hx := x.isLt
  have hxi : x.toInt = if 2 * x.toNat < 2 ^ 32 then (x.toNat : Int) else (x.toNat : Int) - 2 ^ 32 := BitVec.toInt_eq_toNat_cond x
  have hd : (64 : Int) ∣ x.toInt ↔ x.toInt % 64 = 0 := ⟨Int.emod_eq_zero_of_dvd, Int.dvd_of_emod_eq_zero⟩
  simp only [hd] at hr
  generalize x.srem 64#32 = r at hr
  have hri : r.toInt = if 2 * r.toNat < 2 ^ 32 then (r.toNat : Int) else (r.toNat : Int) - 2 ^ 32 := BitVec.toInt_eq_toNat_cond r
  have hrl := r.isLt
  have hz : r = 0#32 ↔ r.toNat = 0 := by
    rw [← BitVec.toNat_inj]; rfl
  have hsl : IntOp.cmpi .slt r 0#32 = BitVec.ofBool (decide (r.toInt < 0)) := rfl
  have hne : IntOp.cmpi .ne r 0#32 = BitVec.ofBool (decide (r ≠ 0#32)) := by
    show BitVec.ofBool _ = _
    congr 1
    by_cases h : r = 0#32 <;> simp [h]
  rw [hsl, hne]
  by_cases h1 : r.toInt < 0
  · have h2 : r ≠ 0#32 := by
      intro h; rw [h] at h1; exact absurd h1 (by decide)
    rw [decide_eq_true h1, decide_eq_true h2]
    show (r + 64#32).toNat = _
    rw [BitVec.toNat_add]
    show (r.toNat + 64) % 2 ^ 32 = _
    split at hxi <;> split at hri <;> split at hr <;> omega
  · rw [decide_eq_false h1]
    have : ∀ b : Bool, Scalar.select (IntOp.andi (IntOp.cmpi .ne (BitVec.ofBool false) (IntOp.cmpi .slt 64#32 0#32)) (BitVec.ofBool b))
        (IntOp.addi r 64#32) r = r := by
      intro b; cases b <;> rfl
    rw [this]
    split at hxi <;> split at hri <;> split at hr <;> omega

theorem rem64_lt (x : BitVec 32) : (rem64 x).toNat < 64 := by rw [rem64_toNat]; omega

/-- The word of the first decision: one when the index is at least one. -/
def upd (x : BitVec 32) : BitVec 32 := (IntOp.cmpi .sge x 1#32).setWidth 32
/-- The word of the second decision: one when, besides, the index is a multiple of 64. -/
def shift (x : BitVec 32) : BitVec 32 :=
  (IntOp.andi (IntOp.cmpi .sge x 1#32) (IntOp.cmpi .eq (rem64 x) 0#32)).setWidth 32

theorem sge_one (x : BitVec 32) : IntOp.cmpi .sge x 1#32 = BitVec.ofBool (decide (1 ≤ x.toInt)) := rfl

theorem eq_zero (x : BitVec 32) : IntOp.cmpi .eq x 0#32 = BitVec.ofBool (decide (x.toNat = 0)) := by
  show BitVec.ofBool _ = _
  congr 1
  have : x = 0#32 ↔ x.toNat = 0 := by rw [← BitVec.toNat_inj]; rfl
  by_cases h : x = 0#32
  · subst h; rfl
  · rw [decide_eq_false fun h' => h (this.mpr h')]
    exact beq_false_of_ne h

theorem upd_eq (x : BitVec 32) : upd x = if 1 ≤ x.toInt then 1#32 else 0#32 := by
  unfold upd
  rw [sge_one]
  split
  next h => rw [decide_eq_true h]; rfl
  next h => rw [decide_eq_false h]; rfl

theorem shift_eq (x : BitVec 32) : shift x = if 1 ≤ x.toInt ∧ x.toNat % 64 = 0 then 1#32 else 0#32 := by
  unfold shift
  rw [sge_one, eq_zero, rem64_toNat]
  by_cases h : 1 ≤ x.toInt <;> by_cases h' : x.toNat % 64 = 0 <;> simp [h, h'] <;> decide

theorem upd_cases (x : BitVec 32) : upd x = 0#32 ∨ upd x = 1#32 := by
  rw [upd_eq]; split <;> simp
theorem shift_cases (x : BitVec 32) : shift x = 0#32 ∨ shift x = 1#32 := by
  rw [shift_eq]; split <;> simp

end Cert.Words
-- ==== Proof.Entry.lean ====
/-
  What the kernel's region finds: the four words the host computes from the index, the bias as a row, and each input
  window's block read at an index.
-/
module

public import proofs.«01_k».proof.Proof.Gen.KernelIdeal.Frame
public import proofs.«01_k».proof.Proof.Words
public import Idealize.ShloMosaic.Lib.Claim
public import Idealize.ShloMosaic.Lib.StableHlo.ReadAt
public import Idealize.ShloMosaic.Lib.Pointwise.TacticCore
public import Idealize.ShloMosaic.Lib.Pointwise.Reshape

@[expose] public section

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)

/-- The index, on device `c`. -/
abbrev index (c : Dev nD) : BitVec 32 := m ((c : Thread nD τ).loc main_arg4) ix0

/-- Word 0 is the index's remainder by 64. -/
theorem word0 (c : Dev nD) : (V m c main_v13 : S4.Idx → BitVec 32) (ix1 0) = Words.rem64 (index m c) := by
  simp only [V, hostOps0, hostOps0_1, hostOps0_2, hostOps0_3, hostOps0_4, List.flatten_cons, List.flatten_nil, List.append_nil, List.cons_append, List.nil_append]
  after_reads_at
  after_reads_at
  rfl
/-- Word 1 is the remainder by 64 of the index less one. -/
theorem word1 (c : Dev nD) : (V m c main_v13 : S4.Idx → BitVec 32) (ix1 1) = Words.rem64 (IntOp.subi (index m c) 1#32) := by
  simp only [V, hostOps0, hostOps0_1, hostOps0_2, hostOps0_3, hostOps0_4, List.flatten_cons, List.flatten_nil, List.append_nil, List.cons_append, List.nil_append]
  after_reads_at
  after_reads_at
  rfl
/-- Word 2 says whether the index is at least one. -/
theorem word2 (c : Dev nD) : (V m c main_v13 : S4.Idx → BitVec 32) (ix1 2) = Words.upd (index m c) := by
  simp only [V, hostOps0, hostOps0_1, hostOps0_2, hostOps0_3, hostOps0_4, List.flatten_cons, List.flatten_nil, List.append_nil, List.cons_append, List.nil_append]
  after_reads_at
  after_reads_at
  rfl
/-- Word 3 says whether, besides, the index is a multiple of 64. -/
theorem word3 (c : Dev nD) : (V m c main_v13 : S4.Idx → BitVec 32) (ix1 3) = Words.shift (index m c) := by
  simp only [V, hostOps0, hostOps0_1, hostOps0_2, hostOps0_3, hostOps0_4, List.flatten_cons, List.flatten_nil, List.append_nil, List.cons_append, List.nil_append]
  after_reads_at
  after_reads_at
  rfl

/-- The bias as a row. -/
theorem bias_row (c : Dev nD) (o : Fin 64) :
    (V m c main_v14 : S1x64.Idx → F .f32) (ix2 0 o) = m ((c : Thread nD τ).loc main_arg3) (ix1 o) := by
  show (fun X : S1x64.Idx → F .f32 => X (ix2 0 o) = m ((c : Thread nD τ).loc main_arg3) (ix1 o)) (V m c main_v14)
  simp only [V, hostOps0, hostOps0_1, hostOps0_2, hostOps0_3, hostOps0_4, List.flatten_cons, List.flatten_nil, List.append_nil, List.cons_append, List.nil_append]
  after_results
  pointwise

/-! ## The windows' blocks at an index -/

/-- Row `r` of block `t` is row `64 t + r` of the batch. -/
def batchRow (t : Fin cfg0.N) (r : Fin 64) : Fin 4096 :=
  ⟨64 * t.val + r.val, by have := t.isLt; have h : cfg0.N = 64 := N_0; omega⟩

theorem idx0 : ∀ t : Fin cfg0.N, win0_0.index t 0 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 ∧ win0_2.index t 2 = 0 ∧ win0_2.index t 3 = 0 := by decide +kernel
theorem idx3 : ∀ t : Fin cfg0.N, win0_3.index t 0 = 0 ∧ win0_3.index t 1 = 0 ∧ win0_3.index t 2 = 0 ∧ win0_3.index t 3 = 0 := by decide +kernel
theorem idx4 : ∀ t : Fin cfg0.N, win0_4.index t 0 = 0 ∧ win0_4.index t 1 = 0 := by decide +kernel

/-- Window 0's block: the four words. -/
theorem blk0 (c : Dev nD) (t : Fin cfg0.N) (j : Fin 4) :
    (iblk m c 0 t : Vec F S4 .i32) (ix1 j) = (V m c main_v13 : S4.Idx → BitVec 32) (ix1 j) := by
  unfold iblk
  show (V m c main_v13 : S4.Idx → BitVec 32) ((win0_0.rect t).emb (ix1 j)) = _
  congr 1
  funext a
  apply Fin.ext
  fin_cases a
  show win0_0.index t 0 * 4 + (1 * j.val) = j.val
  rw [idx0]; omega

/-- Window 1's block: rows of the input. -/
theorem blk1 (c : Dev nD) (t : Fin cfg0.N) (r f : Fin 64) :
    (iblk m c 1 t : Vec F S64x64 .f32) (ix2 r f) = (m ((c : Thread nD τ).loc main_arg0) : S4096x64.Idx → F .f32) (ix2 (batchRow t r) f) := by
  rw [← V_main_arg0 m c]
  unfold iblk
  show (V m c main_arg0 : S4096x64.Idx → F .f32) ((win0_1.rect t).emb (ix2 r f)) = _
  congr 1
  obtain ⟨h0, h1⟩ := idx1 t
  funext a
  apply Fin.ext
  fin_cases a
  · show win0_1.index t 0 * 64 + (1 * r.val) = 64 * t.val + r.val
    rw [h0]; omega
  · show win0_1.index t 1 * 64 + (1 * f.val) = f.val
    rw [h1]; omega

/-- Window 2's block: the cache of the block's rows. -/
theorem blk2 (c : Dev nD) (t : Fin cfg0.N) (r : Fin 64) (h : Fin 4) (w f : Fin 64) :
    (iblk m c 2 t : Vec F S64x4x64x64 .f32) (ix4 r h w f)
      = (m ((c : Thread nD τ).loc main_arg1) : S4096x4x64x64.Idx → F .f32) (ix4 (batchRow t r) h w f) := by
  rw [← V_main_arg1 m c]
  unfold iblk
  show (V m c main_arg1 : S4096x4x64x64.Idx → F .f32) ((win0_2.rect t).emb (ix4 r h w f)) = _
  congr 1
  obtain ⟨h0, h1, h2, h3⟩ := idx2 t
  funext a
  apply Fin.ext
  fin_cases a
  · show win0_2.index t 0 * 64 + (1 * r.val) = 64 * t.val + r.val
    rw [h0]; omega
  · show win0_2.index t 1 * 4 + (1 * h.val) = h.val
    rw [h1]; omega
  · show win0_2.index t 2 * 64 + (1 * w.val) = w.val
    rw [h2]; omega
  · show win0_2.index t 3 * 64 + (1 * f.val) = f.val
    rw [h3]; omega

/-- Window 3's block: all the weights. -/
theorem blk3 (c : Dev nD) (t : Fin cfg0.N) (h : Fin 4) (w : Fin 7) (f o : Fin 64) :
    (iblk m c 3 t : Vec F S4x7x64x64 .f32) (ix4 h w f o)
      = (m ((c : Thread nD τ).loc main_arg2) : S4x7x64x64.Idx → F .f32) (ix4 h w f o) := by
  rw [← V_main_arg2 m c]
  unfold iblk
  show (V m c main_arg2 : S4x7x64x64.Idx → F .f32) ((win0_3.rect t).emb (ix4 h w f o)) = _
  congr 1
  obtain ⟨h0, h1, h2, h3⟩ := idx3 t
  funext a
  apply Fin.ext
  fin_cases a
  · show win0_3.index t 0 * 4 + (1 * h.val) = h.val
    rw [h0]; omega
  · show win0_3.index t 1 * 7 + (1 * w.val) = w.val
    rw [h1]; omega
  · show win0_3.index t 2 * 64 + (1 * f.val) = f.val
    rw [h2]; omega
  · show win0_3.index t 3 * 64 + (1 * o.val) = o.val
    rw [h3]; omega

/-- Window 4's block: the bias. -/
theorem blk4 (c : Dev nD) (t : Fin cfg0.N) (o : Fin 64) :
    (iblk m c 4 t : Vec F S1x64 .f32) (ix2 0 o) = (m ((c : Thread nD τ).loc main_arg3) : S64.Idx → F .f32) (ix1 o) := by
  refine Eq.trans ?_ (bias_row m c o)
  unfold iblk
  show (V m c main_v14 : S1x64.Idx → F .f32) ((win0_4.rect t).emb (ix2 0 o)) = _
  congr 1
  obtain ⟨h0, h1⟩ := idx4 t
  funext a
  apply Fin.ext
  fin_cases a
  · show win0_4.index t 0 * 1 + (1 * 0) = 0
    rw [h0]
  · show win0_4.index t 1 * 64 + (1 * o.val) = o.val
    rw [h1]; omega

end Cert.KernelIdeal.Entry

end
-- ==== Proof.Launch.lean ====
/-
  The kernel's launch: the body's run at every grid point, and so the run of the whole program, its two result arrays
  at what the blocks left make of them.
-/
module

public import proofs.«01_k».proof.Proof.Body
public import proofs.«01_k».proof.Proof.Entry
public import Idealize.ShloMosaic.Lib.Claim

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The cache block point `t` leaves. -/
def cacheBlk (c : Dev nD) (t : Fin cfg0.N) : Vec F S64x4x64x64 .f32 :=
  Body.coutOf (iblk m c 0 t) (iblk m c 1 t) (iblk m c 2 t)

/-- The output block point `t` leaves. -/
def outBlk (c : Dev nD) (t : Fin cfg0.N) : Vec F S64x64 .f32 :=
  Body.yBlk ((iblk m c 0 t : Vec F S4 .i32) (ix1 0)) (cacheBlk m c t) (iblk m c 3 t) (iblk m c 4 t)

/-- The body's run at point `t`: the words it reads are those the host computed. -/
theorem leaves (c : Dev nD) (t : Fin cfg0.N) :
    Body.Leaves (F := F) (iblk m c 0 t) (iblk m c 1 t) (iblk m c 2 t) (iblk m c 3 t) (iblk m c 4 t) (cacheBlk m c t) := by
  refine Body.run _ _ _ _ _ ?_ ?_ ?_
  · rw [Entry.blk0, Entry.word1]; exact Words.rem64_lt _
  · rw [Entry.blk0, Entry.word2]; exact Words.upd_cases _
  · rw [Entry.blk0, Entry.word3]; exact Words.shift_cases _

/-- The proof data: each input's block left as staged, the two outputs' blocks as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
    | ⟨6, _⟩ => cacheBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c t := by dsimp only [dats]
theorem after_6 (c : Dev nD) (t : Fin cfg0.N) : (dats m 0 c).after 6 t = cacheBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 2400000 in
/-- The body at any point: its inputs hold their blocks, so `leaves` applies; nothing else is touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((leaves m c t c (grid0.coords t) _ _ _ _ _ _ _ _ _ _ _ _ _ _) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution terminates, each array as the blocks left make it, every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Launch

end
-- ==== Proof.BitsFrame.lean ====
/-
  The kernel's frame on bits. The ideal kernel is the kernel's own text, and its frame holds of any floats: so it is the
  kernel's frame too.
-/
module

public import proofs.«01_k».proof.Defs
public import proofs.«01_k».proof.Proof.Launch
public import proofs.«01_k».proof.Proof.Gen.Kernel

@[expose] public section

set_option maxRecDepth 16384

noncomputable section

namespace Cert.Kernel.BitsFrame

open Idealize.ShloMosaic Idealize.SL.Sem

variable {F : FTy → Type} [FloatOps F]

attribute [local instance] Cert.Kernel.Gen.facts Cert.KernelIdeal.Gen.facts

/-- The two bodies are one text. -/
theorem body_eq : Cert.Kernel.cc0__fmc_kernel (F := F) = Cert.KernelIdeal.cc0__fmc_kernel (F := F) := rfl

set_option maxHeartbeats 4000000 in
/-- So the two tables of bodies are one, -/
theorem bodies_eq : Cert.Kernel.defs₀ (F := F) = Cert.KernelIdeal.defs₀ (F := F) := by
  unfold Cert.Kernel.defs₀ Cert.KernelIdeal.defs₀
  rw [body_eq]
  refine congrArg Defs.onTc (funext fun l => ?_)
  match l with
  | ⟨0, _⟩ =>
    funext a
    obtain ⟨t, s⟩ := a
    rfl
  | ⟨n + 1, h⟩ => exact absurd h (by omega)

set_option maxHeartbeats 4000000 in
/-- and with their pipelines, -/
theorem defs_eq : Cert.Kernel.defs (F := F) = Cert.KernelIdeal.defs (F := F) :=
  congrArg (Pipeline.defs Cert.Kernel.pcfgs) bodies_eq

set_option maxHeartbeats 4000000 in
/-- and the two host programs are one. -/
theorem main_eq : Cert.Kernel.main (F := F) = Cert.KernelIdeal.main (F := F) := rfl

set_option maxHeartbeats 4000000 in
/-- The kernel's frame: the ideal kernel's, its floats read as bits. -/
theorem frame : Cert.quiescent_Kernel (hKernel := Cert.Kernel.Gen.facts) := fun m ρ _ => by
  have h := Cert.KernelIdeal.Launch.frame (F := Bits) m ρ
  rw [← defs_eq, ← main_eq] at h
  exact h

end Cert.Kernel.BitsFrame

end
-- ==== Proof.Conv.lean ====
/-
  The convolution both programs compute at one output element, over the extended reals.
-/
module

public import Idealize.ShloMosaic.PureOps.Ideal.Laws

@[expose] public section

noncomputable section

namespace Cert.Conv

open scoped BigOperators

/-- One tap at the column `n` of the cache `g`: the products' sum over the channels, or zero outside the cache. -/
def tapSum (g : Fin 4 → Fin 64 → Fin 64 → EReal) (K : Fin 4 → Fin 7 → Fin 64 → EReal) (n : ℕ) (h : Fin 4) (w : Fin 7) : EReal :=
  if hin : 3 ≤ n + w.val ∧ n + w.val < 67 then ∑ f : Fin 64, g h ⟨n + w.val - 3, by omega⟩ f * K h w f else 0

/-- The causal convolution: the taps of the window's rows and columns, without the last row's columns from the centre on. -/
def conv (g : Fin 4 → Fin 64 → Fin 64 → EReal) (K : Fin 4 → Fin 7 → Fin 64 → EReal) (n : ℕ) : EReal :=
  ∑ h : Fin 4, ∑ w : Fin 7, if h.val = 3 ∧ 3 ≤ w.val then 0 else tapSum g K n h w

/-- The convolution as the taps added one after the other. -/
theorem conv_eq (g : Fin 4 → Fin 64 → Fin 64 → EReal) (K : Fin 4 → Fin 7 → Fin 64 → EReal) (n : ℕ) :
    conv g K n = 0 + tapSum g K n 0 0 + tapSum g K n 0 1 + tapSum g K n 0 2 + tapSum g K n 0 3 + tapSum g K n 0 4
      + tapSum g K n 0 5 + tapSum g K n 0 6 + tapSum g K n 1 0 + tapSum g K n 1 1 + tapSum g K n 1 2 + tapSum g K n 1 3
      + tapSum g K n 1 4 + tapSum g K n 1 5 + tapSum g K n 1 6 + tapSum g K n 2 0 + tapSum g K n 2 1 + tapSum g K n 2 2
      + tapSum g K n 2 3 + tapSum g K n 2 4 + tapSum g K n 2 5 + tapSum g K n 2 6 + tapSum g K n 3 0 + tapSum g K n 3 1
      + tapSum g K n 3 2 := by
  unfold conv
  generalize tapSum g K n = T
  rw [Fin.sum_univ_four]
  simp only [Fin.sum_univ_seven]
  have e : ∀ (h : Fin 4) (w : Fin 7) (p : Prop) [Decidable p], ¬p → (if p then (0 : EReal) else T h w) = T h w :=
    fun h w p _ hp => if_neg hp
  have z : ∀ (h : Fin 4) (w : Fin 7) (p : Prop) [Decidable p], p → (if p then (0 : EReal) else T h w) = 0 :=
    fun h w p _ hp => if_pos hp
  rw [e 0 0 _ (by decide), e 0 1 _ (by decide), e 0 2 _ (by decide), e 0 3 _ (by decide), e 0 4 _ (by decide), e 0 5 _ (by decide),
    e 0 6 _ (by decide), e 1 0 _ (by decide), e 1 1 _ (by decide), e 1 2 _ (by decide), e 1 3 _ (by decide), e 1 4 _ (by decide),
    e 1 5 _ (by decide), e 1 6 _ (by decide), e 2 0 _ (by decide), e 2 1 _ (by decide), e 2 2 _ (by decide), e 2 3 _ (by decide),
    e 2 4 _ (by decide), e 2 5 _ (by decide), e 2 6 _ (by decide), e 3 0 _ (by decide), e 3 1 _ (by decide), e 3 2 _ (by decide),
    z 3 3 _ (by decide), z 3 4 _ (by decide), z 3 5 _ (by decide), z 3 6 _ (by decide)]
  simp only [add_zero, zero_add, add_assoc]

end Cert.Conv

end
-- ==== Proof.KernelTap.lean ====
/-
  The kernel's output block over the extended reals, read at an index: the convolution of the cache block, and the bias.
-/
module

public import proofs.«01_k».proof.Proof.Body
public import proofs.«01_k».proof.Proof.Conv
public import Idealize.ShloMosaic.Lib.Pointwise.Contract
public import Idealize.ShloMosaic.Lib.IdealHost

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open scoped BigOperators

/-! ## The words of a tap -/

/-- The column a tap loads, by number. -/
theorem col_dec : ∀ n : Fin 64, ∀ w : Fin 7,
    (Scalar.indexCast (Scalar.minsi 63#32 (Scalar.maxsi 0#32 (Scalar.addi (Scalar.subi (BitVec.ofNat 32 n.val) 3#32) (BitVec.ofNat 32 w.val))))).toNat
      = min (n.val + w.val - 3) 63 := by decide +kernel

/-- Whether a tap's column lies in the cache, by number. -/
theorem valid_dec : ∀ n : Fin 64, ∀ w : Fin 7,
    Scalar.andi (Scalar.cmpi .sge (Scalar.addi (Scalar.subi (BitVec.ofNat 32 n.val) 3#32) (BitVec.ofNat 32 w.val)) 0#32)
      (Scalar.cmpi .slt (Scalar.addi (Scalar.subi (BitVec.ofNat 32 n.val) 3#32) (BitVec.ofNat 32 w.val)) 64#32)
      = if 3 ≤ n.val + w.val ∧ n.val + w.val < 67 then 1#1 else 0#1 := by decide +kernel

theorem word_eq (v0 : BitVec 32) : v0 = BitVec.ofNat 32 v0.toNat := by simp

theorem col_eq (v0 : BitVec 32) (hv : v0.toNat < 64) (w : Fin 7) :
    (Scalar.indexCast (Scalar.minsi 63#32 (Scalar.maxsi 0#32 (Scalar.addi (Scalar.subi v0 3#32) (BitVec.ofNat 32 w.val))))).toNat
      = min (v0.toNat + w.val - 3) 63 := by
  have h := col_dec ⟨v0.toNat, hv⟩ w
  simp only [← word_eq] at h
  exact h

theorem valid_eq (v0 : BitVec 32) (hv : v0.toNat < 64) (w : Fin 7) :
    (valid v0 (BitVec.ofNat 32 w.val) : Ideal .f32) = (if 3 ≤ v0.toNat + w.val ∧ v0.toNat + w.val < 67 then (1 : EReal) else 0) := by
  have h := valid_dec ⟨v0.toNat, hv⟩ w
  simp only [← word_eq] at h
  unfold valid
  rw [h]
  split
  · exact Ideal.ofBits_one_f32
  · exact Ideal.ofBits_zero_f32

/-! ## One tap -/

/-- One tap at an index. -/
theorem tap_apply (s : Ideal .f32) (x : Vec Ideal S64x1x1x64 .f32) (k : Vec Ideal S1x1x64x64 .f32) (acc : FVec Ideal S64x64 .f32)
    (r o : Fin 64) :
    tap s x k acc (ix2 r o)
      = (acc (ix2 r o) + ∑ f : Fin 64, (x (ix4 r 0 0 f) * s) * k (ix4 0 0 f o) : EReal) := by
  unfold tap
  pointwise
  show (acc (ix2 r o) + ((Scalar.ofBits .f32 0x00000000#32 : Ideal .f32) + ∑ f : Fin 64, (x (ix4 r 0 0 f) * s) * k (ix4 0 0 f o)) : EReal) = _
  have hz : (Scalar.ofBits .f32 0x00000000#32 : Ideal .f32) = (0 : EReal) := Ideal.ofBits_zero_f32
  rw [hz, zero_add]

/-- A tap at an index, its operands loaded from the cache block and the weights. -/
theorem tap_conv (v0 : BitVec 32) (hv : v0.toNat < 64) (w : Fin 7) (h : Fin 4) (x : Vec Ideal S64x1x1x64 .f32)
    (k : Vec Ideal S1x1x64x64 .f32) (acc : FVec Ideal S64x64 .f32) (cb : Vec Ideal S64x4x64x64 .f32) (x3 : Vec Ideal S4x7x64x64 .f32)
    (r o : Fin 64) (n : ℕ) (hn : n = v0.toNat)
    (hx : ∀ f : Fin 64, x (ix4 r 0 0 f) = cb (ix4 r h (⟨min (v0.toNat + w.val - 3) 63, by omega⟩ : Fin 64) f))
    (hk : ∀ f : Fin 64, k (ix4 0 0 f o) = x3 (ix4 h w f o)) :
    (tap (valid v0 (BitVec.ofNat 32 w.val)) x k acc (ix2 r o) : EReal)
      = acc (ix2 r o) + Conv.tapSum (fun h w f => cb (ix4 r h w f)) (fun h w f => x3 (ix4 h w f o)) n h w := by
  subst hn
  rw [tap_apply, valid_eq v0 hv]
  congr 1
  unfold Conv.tapSum
  by_cases hin : 3 ≤ v0.toNat + w.val ∧ v0.toNat + w.val < 67
  · rw [dif_pos hin, if_pos hin]
    refine Finset.sum_congr rfl fun f _ => ?_
    rw [hx, hk, mul_one]
    have e : (⟨min (v0.toNat + w.val - 3) 63, by omega⟩ : Fin 64) = ⟨v0.toNat + w.val - 3, by omega⟩ := Fin.ext (by simp only; omega)
    rw [e]
  · rw [dif_neg hin, if_neg hin]
    refine Finset.sum_eq_zero fun f _ => ?_
    rw [mul_zero, zero_mul]

section taps

variable (v0 : BitVec 32) (hv : v0.toNat < 64) (cb : Vec Ideal S64x4x64x64 .f32) (x3 : Vec Ideal S4x7x64x64 .f32)
  (acc : FVec Ideal S64x64 .f32) (r o : Fin 64)
include hv

theorem tap0_apply (w : Fin 7) (inb) :
    (tap0 v0 cb x3 w inb acc (ix2 r o) : EReal)
      = acc (ix2 r o) + Conv.tapSum (fun h w f => cb (ix4 r h w f)) (fun h w f => x3 (ix4 h w f o)) v0.toNat 0 w := by
  unfold tap0
  refine tap_conv v0 hv w 0 _ _ acc cb x3 r o _ rfl (fun f => ?_) (fun f => ?_)
  · refine View.ld_unit_apply_of cb _ _ _ _ _ fun a => ?_
    fin_cases a
    · show r.val = 0 + r.val; omega
    · show 0 = 0 + 0; omega
    · exact (col_eq v0 hv w).symm
    · show f.val = 0 + f.val; omega
  · refine View.ld_unit_apply_of x3 _ _ _ _ _ fun a => ?_
    fin_cases a
    · show 0 = 0 + 0; omega
    · show w.val = w.val + 0; omega
    · show f.val = 0 + f.val; omega
    · show o.val = 0 + o.val; omega

theorem tap1_apply (w : Fin 7) (inb) :
    (tap1 v0 cb x3 w inb acc (ix2 r o) : EReal)
      = acc (ix2 r o) + Conv.tapSum (fun h w f => cb (ix4 r h w f)) (fun h w f => x3 (ix4 h w f o)) v0.toNat 1 w := by
  unfold tap1
  refine tap_conv v0 hv w 1 _ _ acc cb x3 r o _ rfl (fun f => ?_) (fun f => ?_)
  · refine View.ld_unit_apply_of cb _ _ _ _ _ fun a => ?_
    fin_cases a
    · show r.val = 0 + r.val; omega
    · show 1 = 1 + 0; omega
    · exact (col_eq v0 hv w).symm
    · show f.val = 0 + f.val; omega
  · refine View.ld_unit_apply_of x3 _ _ _ _ _ fun a => ?_
    fin_cases a
    · show 1 = 1 + 0; omega
    · show w.val = w.val + 0; omega
    · show f.val = 0 + f.val; omega
    · show o.val = 0 + o.val; omega

theorem tap2_apply (w : Fin 7) (inb) :
    (tap2 v0 cb x3 w inb acc (ix2 r o) : EReal)
      = acc (ix2 r o) + Conv.tapSum (fun h w f => cb (ix4 r h w f)) (fun h w f => x3 (ix4 h w f o)) v0.toNat 2 w := by
  unfold tap2
  refine tap_conv v0 hv w 2 _ _ acc cb x3 r o _ rfl (fun f => ?_) (fun f => ?_)
  · refine View.ld_unit_apply_of cb _ _ _ _ _ fun a => ?_
    fin_cases a
    · show r.val = 0 + r.val; omega
    · show 2 = 2 + 0; omega
    · exact (col_eq v0 hv w).symm
    · show f.val = 0 + f.val; omega
  · refine View.ld_unit_apply_of x3 _ _ _ _ _ fun a => ?_
    fin_cases a
    · show 2 = 2 + 0; omega
    · show w.val = w.val + 0; omega
    · show f.val = 0 + f.val; omega
    · show o.val = 0 + o.val; omega

theorem tap3_apply (w : Fin 3) (inb) :
    (tap3 v0 cb x3 w inb acc (ix2 r o) : EReal)
      = acc (ix2 r o) + Conv.tapSum (fun h w f => cb (ix4 r h w f)) (fun h w f => x3 (ix4 h w f o)) v0.toNat 3 (⟨w.val, by omega⟩ : Fin 7) := by
  unfold tap3
  refine tap_conv v0 hv (⟨w.val, by omega⟩ : Fin 7) 3 _ _ acc cb x3 r o _ rfl (fun f => ?_) (fun f => ?_)
  · refine View.ld_unit_apply_of cb _ _ _ _ _ fun a => ?_
    fin_cases a
    · show r.val = 0 + r.val; omega
    · show 3 = 3 + 0; omega
    · exact (col_eq v0 hv (⟨w.val, by omega⟩ : Fin 7)).symm
    · show f.val = 0 + f.val; omega
  · refine View.ld_unit_apply_of x3 _ _ _ _ _ fun a => ?_
    fin_cases a
    · show 3 = 3 + 0; omega
    · show w.val = w.val + 0; omega
    · show f.val = 0 + f.val; omega
    · show o.val = 0 + o.val; omega

end taps

/-- The output block at an index: the convolution of the cache block at the column `v0`, and the bias. -/
theorem yBlk_apply (v0 : BitVec 32) (hv : v0.toNat < 64) (cb : Vec Ideal S64x4x64x64 .f32) (x3 : Vec Ideal S4x7x64x64 .f32)
    (x4 : Vec Ideal S1x64 .f32) (r o : Fin 64) :
    (yBlk v0 cb x3 x4 (ix2 r o) : EReal)
      = Conv.conv (fun h w f => cb (ix4 r h w f)) (fun h w f => x3 (ix4 h w f o)) v0.toNat + x4 (ix2 0 o) := by
  have hb : (broadcastTo S64x64 (shapeCast S1x64 x4 shapeCasts_S1x64_S1x64) broadcasts_S1x64_S64x64 : FVec Ideal S64x64 .f32) (ix2 r o)
      = x4 (ix2 0 o) := by
    pointwise
  show (acc3 v0 cb x3 (ix2 r o) : EReal)
    + (broadcastTo S64x64 (shapeCast S1x64 x4 shapeCasts_S1x64_S1x64) broadcasts_S1x64_S64x64 : FVec Ideal S64x64 .f32) (ix2 r o) = _
  rw [hb, Conv.conv_eq]
  congr 1
  unfold acc3
  rw [tap3_apply v0 hv, tap3_apply v0 hv, tap3_apply v0 hv]
  unfold acc2
  rw [tap2_apply v0 hv, tap2_apply v0 hv, tap2_apply v0 hv, tap2_apply v0 hv, tap2_apply v0 hv, tap2_apply v0 hv, tap2_apply v0 hv]
  unfold acc1
  rw [tap1_apply v0 hv, tap1_apply v0 hv, tap1_apply v0 hv, tap1_apply v0 hv, tap1_apply v0 hv, tap1_apply v0 hv, tap1_apply v0 hv]
  unfold acc0
  rw [tap0_apply v0 hv, tap0_apply v0 hv, tap0_apply v0 hv, tap0_apply v0 hv, tap0_apply v0 hv, tap0_apply v0 hv, tap0_apply v0 hv]
  have hz : ((broadcast S64x64 (Scalar.ofBits .f32 0x00000000#32 : Ideal .f32) : FVec Ideal S64x64 .f32) (ix2 r o) : EReal) = 0 :=
    Ideal.ofBits_zero_f32
  rw [hz]
  rfl

end Cert.KernelIdeal.Body

end
-- ==== Proof.RefRun.lean ====
/-
  The reference's two results as plain terms of the arguments, and its run.
-/
module

public import proofs.«01_k».proof.Proof.Gen.ReferenceIdeal
public import Idealize.ShloMosaic.Lib.StableHlo.RunRead
public import Idealize.ShloMosaic.Lib.Claim

@[expose] public section

set_option maxRecDepth 16384

noncomputable section

namespace Cert.ReferenceIdeal.Term

open Cert.ReferenceIdeal Cert.ReferenceIdeal.Gen
open Idealize.ShloMosaic Idealize.ShloMosaic.TcCoe Idealize.ShloMosaic.StableHlo
open Idealize.SL.Sem

variable {F : FTy → Type} [FloatOps F]

/-! ## The terms -/

/-- The divisor of the printed remainder. -/
def div : IVec S_ 32 :=
  select (cmpi .eq (id (constantI S_ 32 64#32)) (constantI S_ 32 0#32)) (constantI S_ 32 1#32) (id (constantI S_ 32 64#32))

/-- The printed remainder by 64. -/
def rem (x : IVec S_ 32) : IVec S_ 32 :=
  select (andi (cmpi .ne (cmpi .slt (Host.remsi x div) (constantI S_ 32 0#32)) (cmpi .slt div (constantI S_ 32 0#32)))
    (cmpi .ne (Host.remsi x div) (constantI S_ 32 0#32))) (addi (Host.remsi x div) div) (Host.remsi x div)

/-- The start of a dynamic slice at `k` of an axis of `e`, counted from the end where it is negative. -/
def wrap (k : IVec S_ 32) (e : BitVec 32) : IVec S_ 32 :=
  select (cmpi .slt k (constantI S_ 32 0#32)) (addi k (constantI S_ 32 e)) k

/-- The input as a row of one column. -/
def spread (x : FVec F S4096x64 .f32) : FVec F S4096x1x1x64 .f32 :=
  broadcastInDim S4096x1x1x64 ![0, 3] bcast_S4096x64_S4096x1x1x64_0_3 x

/-- The cache with `y` written into its last row at the column `k`. -/
def put (y : FVec F S4096x1x1x64 .f32) (k : IVec S_ 32) (C : FVec F S4096x4x64x64 .f32) : FVec F S4096x4x64x64 .f32 :=
  Host.dynamicUpdateSlice C y
    (fun a => (((![constantI S_ 32 0#32, constantI S_ 32 3#32, wrap k 64#32, constantI S_ 32 0#32] : Fin 4 → IVec S_ 32)) a
      (Shape.Idx.first h_S_)).toInt) updateFits_S4096x4x64x64_S4096x1x1x64

/-- The cache moved up one row, over a row of zeros. -/
def up (C : FVec F S4096x4x64x64 .f32) : FVec F S4096x4x64x64 .f32 :=
  pad S4096x4x64x64 ![0, 0, 0, 0] ![0, 1, 0, 0] ![0, 0, 0, 0]
    (extractStridedSlice S4096x3x64x64 ![0, 1, 0, 0] C slices_S4096x4x64x64_S4096x3x64x64_0_1_0_0)
    (sitofp .f32 (constantI S_ 32 0#32)) pads_S4096x3x64x64_S4096x4x64x64_000_010_000_000 h_S_

/-- `A` where the scalar condition holds, else `B`. -/
def pick (p : IVec S_ 1) (A B : FVec F S4096x4x64x64 .f32) : FVec F S4096x4x64x64 .f32 :=
  select (broadcastInDim S4096x4x64x64 ![] bcast_S_S4096x4x64x64 p) A B

/-- The new cache. -/
def cache (x : FVec F S4096x64 .f32) (C : FVec F S4096x4x64x64 .f32) (i : IVec S_ 32) : FVec F S4096x4x64x64 .f32 :=
  pick (cmpi .sge (subi i (constantI S_ 32 1#32)) (constantI S_ 32 0#32))
    (pick (cmpi .eq (rem i) (constantI S_ 32 0#32))
      (pick (cmpi .eq (rem (subi i (constantI S_ 32 1#32))) (constantI S_ 32 0#32))
        (put (spread x) (rem (subi i (constantI S_ 32 1#32))) (up C)) (up (put (spread x) (rem (subi i (constantI S_ 32 1#32))) C)))
      (put (spread x) (rem (subi i (constantI S_ 32 1#32))) C)) C

/-- The window of the padded cache around the column `k`. -/
def window (C : FVec F S4096x4x64x64 .f32) (k : IVec S_ 32) : FVec F S4096x4x7x64 .f32 :=
  Host.dynamicSlice S4096x4x7x64
    (pad S4096x4x70x64 ![0, 0, 3, 0] ![0, 0, 3, 0] ![0, 0, 0, 0] C (sitofp .f32 (constantI S_ 32 0#32))
      pads_S4096x4x64x64_S4096x4x70x64_000_000_330_000 h_S_)
    (fun a => (((![constantI S_ 32 0#32, constantI S_ 32 0#32, wrap k 70#32, constantI S_ 32 0#32] : Fin 4 → IVec S_ 32)) a
      (Shape.Idx.first h_S_)).toInt) sliceFits_S4096x4x70x64_S4096x4x7x64

/-- The weights with the masked taps at zero. -/
def weights (k : FVec F S4x7x64x64 .f32) : FVec F S4x7x64x64 .f32 :=
  mulf k (broadcastInDim S4x7x64x64 ![0, 1, 2, 3] bcast_S4x7x1x1_S4x7x64x64_0_1_2_3
    ((fun i => FloatOps.ofBits .f32 (lit0 (S4x7x1x1.rowMajor i))) : FVec F S4x7x1x1 .f32))

/-- The output from the cache, the masked weights, the bias and the index's column. -/
def out (C : FVec F S4096x4x64x64 .f32) (W : FVec F S4x7x64x64 .f32) (b : FVec F S64 .f32) (k : IVec S_ 32) : FVec F S4096x64 .f32 :=
  addf (Host.dotGeneral dot_S4096x4x7x64_S4x7x64x64_S4096x64_123_012_0_3_n_n none (window C k) W)
    (broadcastInDim S4096x64 ![0, 1] bcast_S1x64_S4096x64_0_1 (broadcastInDim S1x64 ![1] bcast_S64_S1x64_1 b))

/-! ## The operations -/

/-- The operations that compute the weights and the column. -/
abbrev seg1 : List (HloOp τ sig (Elt F)) :=
  [ nullary main_cst (fun i => FloatOps.ofBits .f32 (lit0 (S4x7x1x1.rowMajor i))),
    unary main_cst main_v0 (broadcastInDim S4x7x64x64 ![0, 1, 2, 3] bcast_S4x7x1x1_S4x7x64x64_0_1_2_3 : (⟨S4x7x1x1, .f32⟩ : BufTy).Contents (Elt F) → (⟨S4x7x64x64, .f32⟩ : BufTy).Contents (Elt F)),
    binary main_arg2 main_v0 main_v1 (mulf : (⟨S4x7x64x64, .f32⟩ : BufTy).Contents (Elt F) → (⟨S4x7x64x64, .f32⟩ : BufTy).Contents (Elt F) → (⟨S4x7x64x64, .f32⟩ : BufTy).Contents (Elt F)),
    nullary main_c (constantI S_ 32 64#32),
    TRef.unary (TRef.of (T := ⟨S_, .i32⟩) main_c) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.binary (TRef.of (T := ⟨S_, .i32⟩) main_arg4) (TRef.of (T := ⟨S_, .i32⟩) main_call0_v2) (TRef.of (T := ⟨S_, .i32⟩) main_call0_v3) Host.remsi,
    TRef.nullary (TRef.of (T := ⟨S_, .i32⟩) main_call0_c_1) (constantI S_ 32 0#32),
    TRef.binary (TRef.of (T := ⟨S_, .i32⟩) main_call0_v3) (TRef.of (T := ⟨S_, .i32⟩) main_call0_c_1) (TRef.of (T := ⟨S_, .i1⟩) main_call0_v4) (cmpi .ne),
    TRef.nullary (TRef.of (T := ⟨S_, .i32⟩) main_call0_c_2) (constantI S_ 32 0#32),
    TRef.binary (TRef.of (T := ⟨S_, .i32⟩) main_call0_v3) (TRef.of (T := ⟨S_, .i32⟩) main_call0_c_2) (TRef.of (T := ⟨S_, .i1⟩) main_call0_v5) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v6) (cmpi .slt),
    TRef.binary (TRef.of (T := ⟨S_, .i1⟩) main_call0_v5) (TRef.of (T := ⟨S_, .i1⟩) main_call0_v6) (TRef.of (T := ⟨S_, .i1⟩) main_call0_v7) (cmpi .ne),
    TRef.binary (TRef.of (T := ⟨S_, .i1⟩) main_call0_v7) (TRef.of (T := ⟨S_, .i1⟩) main_call0_v4) (TRef.of (T := ⟨S_, .i1⟩) main_call0_v8) andi,
    TRef.binary (TRef.of (T := ⟨S_, .i32⟩) main_call0_v3) (TRef.of (T := ⟨S_, .i32⟩) main_call0_v2) (TRef.of (T := ⟨S_, .i32⟩) main_call0_v9) addi,
    TRef.ternary (TRef.of (T := ⟨S_, .i1⟩) main_call0_v8) (TRef.of (T := ⟨S_, .i32⟩) main_call0_v9) (TRef.of (T := ⟨S_, .i32⟩) main_call0_v3) (TRef.of (T := ⟨S_, .i32⟩) main_v2) select ]

/-- The operations that compute the column before. -/
abbrev seg2 : List (HloOp τ sig (Elt F)) :=
  [ nullary main_c_0 (constantI S_ 32 1#32),
    binary main_arg4 main_c_0 main_v3 (subi : (⟨S_, .i32⟩ : BufTy).Contents (Elt F) → (⟨S_, .i32⟩ : BufTy).Contents (Elt F) → (⟨S_, .i32⟩ : BufTy).Contents (Elt F)),
    nullary main_c_1 (constantI S_ 32 64#32),
    TRef.unary (TRef.of (T := ⟨S_, .i32⟩) main_c_1) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.binary (TRef.of (T := ⟨S_, .i32⟩) main_v3) (TRef.of (T := ⟨S_, .i32⟩) main_call1_v2) (TRef.of (T := ⟨S_, .i32⟩) main_call1_v3) Host.remsi,
    TRef.nullary (TRef.of (T := ⟨S_, .i32⟩) main_call1_c_1) (constantI S_ 32 0#32),
    TRef.binary (TRef.of (T := ⟨S_, .i32⟩) main_call1_v3) (TRef.of (T := ⟨S_, .i32⟩) main_call1_c_1) (TRef.of (T := ⟨S_, .i1⟩) main_call1_v4) (cmpi .ne),
    TRef.nullary (TRef.of (T := ⟨S_, .i32⟩) main_call1_c_2) (constantI S_ 32 0#32),
    TRef.binary (TRef.of (T := ⟨S_, .i32⟩) main_call1_v3) (TRef.of (T := ⟨S_, .i32⟩) main_call1_c_2) (TRef.of (T := ⟨S_, .i1⟩) main_call1_v5) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v6) (cmpi .slt),
    TRef.binary (TRef.of (T := ⟨S_, .i1⟩) main_call1_v5) (TRef.of (T := ⟨S_, .i1⟩) main_call1_v6) (TRef.of (T := ⟨S_, .i1⟩) main_call1_v7) (cmpi .ne),
    TRef.binary (TRef.of (T := ⟨S_, .i1⟩) main_call1_v7) (TRef.of (T := ⟨S_, .i1⟩) main_call1_v4) (TRef.of (T := ⟨S_, .i1⟩) main_call1_v8) andi,
    TRef.binary (TRef.of (T := ⟨S_, .i32⟩) main_call1_v3) (TRef.of (T := ⟨S_, .i32⟩) main_call1_v2) (TRef.of (T := ⟨S_, .i32⟩) main_call1_v9) addi,
    TRef.ternary (TRef.of (T := ⟨S_, .i1⟩) main_call1_v8) (TRef.of (T := ⟨S_, .i32⟩) main_call1_v9) (TRef.of (T := ⟨S_, .i32⟩) main_call1_v3) (TRef.of (T := ⟨S_, .i32⟩) main_v4) select ]

/-- The operations that compute the cache moved up, then written. -/
abbrev seg3 : List (HloOp τ sig (Elt F)) :=
  [ unary main_arg0 main_v5 (broadcastInDim S4096x1x1x64 ![0, 3] bcast_S4096x64_S4096x1x1x64_0_3 : (⟨S4096x64, .f32⟩ : BufTy).Contents (Elt F) → (⟨S4096x1x1x64, .f32⟩ : BufTy).Contents (Elt F)),
    nullary main_c_2 (constantI S_ 32 0#32),
    binary main_v4 main_c_2 main_v6 (cmpi .eq : (⟨S_, .i32⟩ : BufTy).Contents (Elt F) → (⟨S_, .i32⟩ : BufTy).Contents (Elt F) → (⟨S_, .i1⟩ : BufTy).Contents (Elt F)),
    unary main_arg1 main_v7 ((extractStridedSlice S4096x3x64x64 ![0, 1, 0, 0] · slices_S4096x4x64x64_S4096x3x64x64_0_1_0_0) : (⟨S4096x4x64x64, .f32⟩ : BufTy).Contents (Elt F) → (⟨S4096x3x64x64, .f32⟩ : BufTy).Contents (Elt F)),
    nullary main_c_3 (constantI S_ 32 0#32),
    TRef.unary (TRef.of (T := ⟨S_, .i32⟩) main_c_3) (TRef.of (T := ⟨S_, .f32⟩) main_call2_v0) (sitofp .f32),
    TRef.binary (TRef.of (T := ⟨S4096x3x64x64, .f32⟩) main_v7) (TRef.of (T := ⟨S_, .f32⟩) main_call2_v0) (TRef.of (T := ⟨S4096x4x64x64, .f32⟩) main_v8) (fun x v => pad S4096x4x64x64 ![0, 0, 0, 0] ![0, 1, 0, 0] ![0, 0, 0, 0] x v pads_S4096x3x64x64_S4096x4x64x64_000_010_000_000 h_S_),
    nullary main_c_4 (constantI S_ 32 0#32),
    binary main_v4 main_c_4 main_v9 (cmpi .slt : (⟨S_, .i32⟩ : BufTy).Contents (Elt F) → (⟨S_, .i32⟩ : BufTy).Contents (Elt F) → (⟨S_, .i1⟩ : BufTy).Contents (Elt F)),
    nullary main_c_5 (constantI S_ 32 64#32),
    binary main_v4 main_c_5 main_v10 (addi : (⟨S_, .i32⟩ : BufTy).Contents (Elt F) → (⟨S_, .i32⟩ : BufTy).Contents (Elt F) → (⟨S_, .i32⟩ : BufTy).Contents (Elt F)),
    ternary main_v9 main_v10 main_v4 main_v11 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 3#32),
    nullary main_c_8 (constantI S_ 32 0#32),
    binaryIndexed main_v8 main_v5 ![main_c_6, main_c_7, main_v11, main_c_8] ⟨S_, .i32⟩ main_v12 ((fun x u i => Host.dynamicUpdateSlice x u (fun k => (i k (Shape.Idx.first h_S_)).toInt) updateFits_S4096x4x64x64_S4096x1x1x64) : (⟨S4096x4x64x64, .f32⟩ : BufTy).Contents (Elt F) → (⟨S4096x1x1x64, .f32⟩ : BufTy).Contents (Elt F) → (Fin 4 → (⟨S_, .i32⟩ : BufTy).Contents (Elt F)) → (⟨S4096x4x64x64, .f32⟩ : BufTy).Contents (Elt F)) ]

/-- The operations that compute the cache written, then moved up. -/
abbrev seg4 : List (HloOp τ sig (Elt F)) :=
  [ nullary main_c_9 (constantI S_ 32 0#32),
    binary main_v4 main_c_9 main_v13 (cmpi .slt : (⟨S_, .i32⟩ : BufTy).Contents (Elt F) → (⟨S_, .i32⟩ : BufTy).Contents (Elt F) → (⟨S_, .i1⟩ : BufTy).Contents (Elt F)),
    nullary main_c_10 (constantI S_ 32 64#32),
    binary main_v4 main_c_10 main_v14 (addi : (⟨S_, .i32⟩ : BufTy).Contents (Elt F) → (⟨S_, .i32⟩ : BufTy).Contents (Elt F) → (⟨S_, .i32⟩ : BufTy).Contents (Elt F)),
    ternary main_v13 main_v14 main_v4 main_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_11 (constantI S_ 32 0#32),
    nullary main_c_12 (constantI S_ 32 3#32),
    nullary main_c_13 (constantI S_ 32 0#32),
    binaryIndexed main_arg1 main_v5 ![main_c_11, main_c_12, main_v15, main_c_13] ⟨S_, .i32⟩ main_v16 ((fun x u i => Host.dynamicUpdateSlice x u (fun k => (i k (Shape.Idx.first h_S_)).toInt) updateFits_S4096x4x64x64_S4096x1x1x64) : (⟨S4096x4x64x64, .f32⟩ : BufTy).Contents (Elt F) → (⟨S4096x1x1x64, .f32⟩ : BufTy).Contents (Elt F) → (Fin 4 → (⟨S_, .i32⟩ : BufTy).Contents (Elt F)) → (⟨S4096x4x64x64, .f32⟩ : BufTy).Contents (Elt F)),
    unary main_v16 main_v17 ((extractStridedSlice S4096x3x64x64 ![0, 1, 0, 0] · slices_S4096x4x64x64_S4096x3x64x64_0_1_0_0) : (⟨S4096x4x64x64, .f32⟩ : BufTy).Contents (Elt F) → (⟨S4096x3x64x64, .f32⟩ : BufTy).Contents (Elt F)),
    nullary main_c_14 (constantI S_ 32 0#32),
    TRef.unary (TRef.of (T := ⟨S_, .i32⟩) main_c_14) (TRef.of (T := ⟨S_, .f32⟩) main_call3_v0) (sitofp .f32),
    TRef.binary (TRef.of (T := ⟨S4096x3x64x64, .f32⟩) main_v17) (TRef.of (T := ⟨S_, .f32⟩) main_call3_v0) (TRef.of (T := ⟨S4096x4x64x64, .f32⟩) main_v18) (fun x v => pad S4096x4x64x64 ![0, 0, 0, 0] ![0, 1, 0, 0] ![0, 0, 0, 0] x v pads_S4096x3x64x64_S4096x4x64x64_000_010_000_000 h_S_),
    TRef.ternary (TRef.of (T := ⟨S_, .i1⟩) main_v6) (TRef.of (T := ⟨S4096x4x64x64, .f32⟩) main_v12) (TRef.of (T := ⟨S4096x4x64x64, .f32⟩) main_v18) (TRef.of (T := ⟨S4096x4x64x64, .f32⟩) main_v19) (fun p a b => select (broadcastInDim S4096x4x64x64 ![] bcast_S_S4096x4x64x64 p) a b) ]

/-- The operations that compute the new cache. -/
abbrev seg5 : List (HloOp τ sig (Elt F)) :=
  [ nullary main_c_15 (constantI S_ 32 0#32),
    binary main_v2 main_c_15 main_v20 (cmpi .eq : (⟨S_, .i32⟩ : BufTy).Contents (Elt F) → (⟨S_, .i32⟩ : BufTy).Contents (Elt F) → (⟨S_, .i1⟩ : BufTy).Contents (Elt F)),
    nullary main_c_16 (constantI S_ 32 0#32),
    binary main_v4 main_c_16 main_v21 (cmpi .slt : (⟨S_, .i32⟩ : BufTy).Contents (Elt F) → (⟨S_, .i32⟩ : BufTy).Contents (Elt F) → (⟨S_, .i1⟩ : BufTy).Contents (Elt F)),
    nullary main_c_17 (constantI S_ 32 64#32),
    binary main_v4 main_c_17 main_v22 (addi : (⟨S_, .i32⟩ : BufTy).Contents (Elt F) → (⟨S_, .i32⟩ : BufTy).Contents (Elt F) → (⟨S_, .i32⟩ : BufTy).Contents (Elt F)),
    ternary main_v21 main_v22 main_v4 main_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_18 (constantI S_ 32 0#32),
    nullary main_c_19 (constantI S_ 32 3#32),
    nullary main_c_20 (constantI S_ 32 0#32),
    binaryIndexed main_arg1 main_v5 ![main_c_18, main_c_19, main_v23, main_c_20] ⟨S_, .i32⟩ main_v24 ((fun x u i => Host.dynamicUpdateSlice x u (fun k => (i k (Shape.Idx.first h_S_)).toInt) updateFits_S4096x4x64x64_S4096x1x1x64) : (⟨S4096x4x64x64, .f32⟩ : BufTy).Contents (Elt F) → (⟨S4096x1x1x64, .f32⟩ : BufTy).Contents (Elt F) → (Fin 4 → (⟨S_, .i32⟩ : BufTy).Contents (Elt F)) → (⟨S4096x4x64x64, .f32⟩ : BufTy).Contents (Elt F)),
    TRef.ternary (TRef.of (T := ⟨S_, .i1⟩) main_v20) (TRef.of (T := ⟨S4096x4x64x64, .f32⟩) main_v19) (TRef.of (T := ⟨S4096x4x64x64, .f32⟩) main_v24) (TRef.of (T := ⟨S4096x4x64x64, .f32⟩) main_v25) (fun p a b => select (broadcastInDim S4096x4x64x64 ![] bcast_S_S4096x4x64x64 p) a b),
    nullary main_c_21 (constantI S_ 32 1#32),
    binary main_arg4 main_c_21 main_v26 (subi : (⟨S_, .i32⟩ : BufTy).Contents (Elt F) → (⟨S_, .i32⟩ : BufTy).Contents (Elt F) → (⟨S_, .i32⟩ : BufTy).Contents (Elt F)),
    nullary main_c_22 (constantI S_ 32 0#32),
    binary main_v26 main_c_22 main_v27 (cmpi .sge : (⟨S_, .i32⟩ : BufTy).Contents (Elt F) → (⟨S_, .i32⟩ : BufTy).Contents (Elt F) → (⟨S_, .i1⟩ : BufTy).Contents (Elt F)),
    TRef.ternary (TRef.of (T := ⟨S_, .i1⟩) main_v27) (TRef.of (T := ⟨S4096x4x64x64, .f32⟩) main_v25) (TRef.of (T := ⟨S4096x4x64x64, .f32⟩) main_arg1) (TRef.of (T := ⟨S4096x4x64x64, .f32⟩) main_v28) (fun p a b => select (broadcastInDim S4096x4x64x64 ![] bcast_S_S4096x4x64x64 p) a b) ]

/-- The operations that compute the output. -/
abbrev seg6 : List (HloOp τ sig (Elt F)) :=
  [ nullary main_c_23 (constantI S_ 32 0#32),
    TRef.unary (TRef.of (T := ⟨S_, .i32⟩) main_c_23) (TRef.of (T := ⟨S_, .f32⟩) main_call7_v0) (sitofp .f32),
    TRef.binary (TRef.of (T := ⟨S4096x4x64x64, .f32⟩) main_v28) (TRef.of (T := ⟨S_, .f32⟩) main_call7_v0) (TRef.of (T := ⟨S4096x4x70x64, .f32⟩) main_v29) (fun x v => pad S4096x4x70x64 ![0, 0, 3, 0] ![0, 0, 3, 0] ![0, 0, 0, 0] x v pads_S4096x4x64x64_S4096x4x70x64_000_000_330_000 h_S_),
    nullary main_c_24 (constantI S_ 32 0#32),
    binary main_v2 main_c_24 main_v30 (cmpi .slt : (⟨S_, .i32⟩ : BufTy).Contents (Elt F) → (⟨S_, .i32⟩ : BufTy).Contents (Elt F) → (⟨S_, .i1⟩ : BufTy).Contents (Elt F)),
    nullary main_c_25 (constantI S_ 32 70#32),
    binary main_v2 main_c_25 main_v31 (addi : (⟨S_, .i32⟩ : BufTy).Contents (Elt F) → (⟨S_, .i32⟩ : BufTy).Contents (Elt F) → (⟨S_, .i32⟩ : BufTy).Contents (Elt F)),
    ternary main_v30 main_v31 main_v2 main_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_26 (constantI S_ 32 0#32),
    nullary main_c_27 (constantI S_ 32 0#32),
    nullary main_c_28 (constantI S_ 32 0#32),
    unaryIndexed main_v29 ![main_c_26, main_c_27, main_v32, main_c_28] ⟨S_, .i32⟩ main_v33 ((fun x i => Host.dynamicSlice S4096x4x7x64 x (fun k => (i k (Shape.Idx.first h_S_)).toInt) sliceFits_S4096x4x70x64_S4096x4x7x64) : (⟨S4096x4x70x64, .f32⟩ : BufTy).Contents (Elt F) → (Fin 4 → (⟨S_, .i32⟩ : BufTy).Contents (Elt F)) → (⟨S4096x4x7x64, .f32⟩ : BufTy).Contents (Elt F)),
    binary main_v33 main_v1 main_v34 ((fun l r => Host.dotGeneral dot_S4096x4x7x64_S4x7x64x64_S4096x64_123_012_0_3_n_n none l r) : (⟨S4096x4x7x64, .f32⟩ : BufTy).Contents (Elt F) → (⟨S4x7x64x64, .f32⟩ : BufTy).Contents (Elt F) → (⟨S4096x64, .f32⟩ : BufTy).Contents (Elt F)),
    unary main_arg3 main_v35 (broadcastInDim S1x64 ![1] bcast_S64_S1x64_1 : (⟨S64, .f32⟩ : BufTy).Contents (Elt F) → (⟨S1x64, .f32⟩ : BufTy).Contents (Elt F)),
    unary main_v35 main_v36 (broadcastInDim S4096x64 ![0, 1] bcast_S1x64_S4096x64_0_1 : (⟨S1x64, .f32⟩ : BufTy).Contents (Elt F) → (⟨S4096x64, .f32⟩ : BufTy).Contents (Elt F)),
    binary main_v34 main_v36 main_v37 (addf : (⟨S4096x64, .f32⟩ : BufTy).Contents (Elt F) → (⟨S4096x64, .f32⟩ : BufTy).Contents (Elt F) → (⟨S4096x64, .f32⟩ : BufTy).Contents (Elt F)) ]

theorem seg1_sub : (seg1 : List (HloOp τ sig (Elt F))).Forall fun op => op.bufs ⊆ tcRefs τ sig :=
  ⟨nullary_bufs_sub .., unary_bufs_sub .., binary_bufs_sub .., nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub ..⟩

theorem seg2_sub : (seg2 : List (HloOp τ sig (Elt F))).Forall fun op => op.bufs ⊆ tcRefs τ sig :=
  ⟨nullary_bufs_sub .., binary_bufs_sub .., nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub ..⟩

theorem seg3_sub : (seg3 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub .., binary_bufs_sub .., nullary_bufs_sub .., binary_bufs_sub .., ternary_bufs_sub .., nullary_bufs_sub .., nullary_bufs_sub .., nullary_bufs_sub .., binaryIndexed_bufs_sub ..⟩

theorem seg4_sub : (seg4 : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., nullary_bufs_sub .., binaryIndexed_bufs_sub .., unary_bufs_sub .., nullary_bufs_sub .., unary_bufs_sub .., binary_bufs_sub .., ternary_bufs_sub ..⟩

theorem seg5_sub : (seg5 : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., nullary_bufs_sub .., nullary_bufs_sub .., nullary_bufs_sub .., binaryIndexed_bufs_sub .., ternary_bufs_sub .., nullary_bufs_sub .., binary_bufs_sub .., nullary_bufs_sub .., binary_bufs_sub .., ternary_bufs_sub ..⟩

theorem seg6_sub : (seg6 : List (HloOp τ sig (Elt F))).Forall fun op => op.bufs ⊆ tcRefs τ sig :=
  ⟨nullary_bufs_sub .., unary_bufs_sub .., binary_bufs_sub .., nullary_bufs_sub .., binary_bufs_sub .., nullary_bufs_sub .., binary_bufs_sub .., ternary_bufs_sub .., nullary_bufs_sub .., nullary_bufs_sub .., nullary_bufs_sub .., unaryIndexed_bufs_sub .., binary_bufs_sub .., unary_bufs_sub .., unary_bufs_sub .., binary_bufs_sub ..⟩

/-! ## What each stretch leaves -/

theorem seg1_v1 (V : Valuation τ sig (Elt F)) : (after seg1 V (Proc.devRef .tc main_v1) : FVec F S4x7x64x64 .f32)
    = weights (V (Proc.devRef .tc main_arg2)) := by
  simp only [seg1, TRef.binary, TRef.nullary, TRef.ternary, TRef.unary, TRef.toBuf, TRef.ofBuf, cast_eq]
  after_reads_simp [unaryIndexed_result_read, binaryIndexed_result_read, indexContents_cons, indexContents_empty]
  rfl

theorem seg1_v2 (V : Valuation τ sig (Elt F)) : (after seg1 V (Proc.devRef .tc main_v2) : IVec S_ 32)
    = rem (V (Proc.devRef .tc main_arg4)) := by
  simp only [seg1, TRef.binary, TRef.nullary, TRef.ternary, TRef.unary, TRef.toBuf, TRef.ofBuf, cast_eq]
  after_reads_simp [unaryIndexed_result_read, binaryIndexed_result_read, indexContents_cons, indexContents_empty]
  rfl

theorem seg1_arg0 (V : Valuation τ sig (Elt F)) : after seg1 V (Proc.devRef .tc main_arg0) = V (Proc.devRef .tc main_arg0) := by
  after_reads_simp

theorem seg1_arg1 (V : Valuation τ sig (Elt F)) : after seg1 V (Proc.devRef .tc main_arg1) = V (Proc.devRef .tc main_arg1) := by
  after_reads_simp

theorem seg1_arg2 (V : Valuation τ sig (Elt F)) : after seg1 V (Proc.devRef .tc main_arg2) = V (Proc.devRef .tc main_arg2) := by
  after_reads_simp

theorem seg1_arg3 (V : Valuation τ sig (Elt F)) : after seg1 V (Proc.devRef .tc main_arg3) = V (Proc.devRef .tc main_arg3) := by
  after_reads_simp

theorem seg1_arg4 (V : Valuation τ sig (Elt F)) : after seg1 V (Proc.devRef .tc main_arg4) = V (Proc.devRef .tc main_arg4) := by
  after_reads_simp

theorem seg2_v4 (V : Valuation τ sig (Elt F)) : (after seg2 V (Proc.devRef .tc main_v4) : IVec S_ 32)
    = rem (subi (V (Proc.devRef .tc main_arg4)) (constantI S_ 32 1#32)) := by
  simp only [seg2, TRef.binary, TRef.nullary, TRef.ternary, TRef.unary, TRef.toBuf, TRef.ofBuf, cast_eq]
  after_reads_simp [unaryIndexed_result_read, binaryIndexed_result_read, indexContents_cons, indexContents_empty]
  rfl

theorem seg2_arg0 (V : Valuation τ sig (Elt F)) : after seg2 V (Proc.devRef .tc main_arg0) = V (Proc.devRef .tc main_arg0) := by
  after_reads_simp

theorem seg2_arg1 (V : Valuation τ sig (Elt F)) : after seg2 V (Proc.devRef .tc main_arg1) = V (Proc.devRef .tc main_arg1) := by
  after_reads_simp

theorem seg2_arg2 (V : Valuation τ sig (Elt F)) : after seg2 V (Proc.devRef .tc main_arg2) = V (Proc.devRef .tc main_arg2) := by
  after_reads_simp

theorem seg2_arg3 (V : Valuation τ sig (Elt F)) : after seg2 V (Proc.devRef .tc main_arg3) = V (Proc.devRef .tc main_arg3) := by
  after_reads_simp

theorem seg2_arg4 (V : Valuation τ sig (Elt F)) : after seg2 V (Proc.devRef .tc main_arg4) = V (Proc.devRef .tc main_arg4) := by
  after_reads_simp

theorem seg2_v1 (V : Valuation τ sig (Elt F)) : after seg2 V (Proc.devRef .tc main_v1) = V (Proc.devRef .tc main_v1) := by
  after_reads_simp

theorem seg2_v2 (V : Valuation τ sig (Elt F)) : after seg2 V (Proc.devRef .tc main_v2) = V (Proc.devRef .tc main_v2) := by
  after_reads_simp

theorem seg3_v5 (V : Valuation τ sig (Elt F)) : (after seg3 V (Proc.devRef .tc main_v5) : FVec F S4096x1x1x64 .f32)
    = spread (V (Proc.devRef .tc main_arg0)) := by
  simp only [seg3, TRef.binary, TRef.nullary, TRef.ternary, TRef.unary, TRef.toBuf, TRef.ofBuf, cast_eq]
  after_reads_simp [unaryIndexed_result_read, binaryIndexed_result_read, indexContents_cons, indexContents_empty]
  rfl

theorem seg3_v6 (V : Valuation τ sig (Elt F)) : (after seg3 V (Proc.devRef .tc main_v6) : IVec S_ 1)
    = cmpi .eq (V (Proc.devRef .tc main_v4)) (constantI S_ 32 0#32) := by
  simp only [seg3, TRef.binary, TRef.nullary, TRef.ternary, TRef.unary, TRef.toBuf, TRef.ofBuf, cast_eq]
  after_reads_simp [unaryIndexed_result_read, binaryIndexed_result_read, indexContents_cons, indexContents_empty]

theorem seg3_v12 (V : Valuation τ sig (Elt F)) : (after seg3 V (Proc.devRef .tc main_v12) : FVec F S4096x4x64x64 .f32)
    = put (spread (V (Proc.devRef .tc main_arg0))) (V (Proc.devRef .tc main_v4)) (up (V (Proc.devRef .tc main_arg1))) := by
  simp only [seg3, TRef.binary, TRef.nullary, TRef.ternary, TRef.unary, TRef.toBuf, TRef.ofBuf, cast_eq]
  after_reads_simp [unaryIndexed_result_read, binaryIndexed_result_read, indexContents_cons, indexContents_empty]
  rfl

theorem seg3_arg0 (V : Valuation τ sig (Elt F)) : after seg3 V (Proc.devRef .tc main_arg0) = V (Proc.devRef .tc main_arg0) := by
  after_reads_simp

theorem seg3_arg1 (V : Valuation τ sig (Elt F)) : after seg3 V (Proc.devRef .tc main_arg1) = V (Proc.devRef .tc main_arg1) := by
  after_reads_simp

theorem seg3_arg2 (V : Valuation τ sig (Elt F)) : after seg3 V (Proc.devRef .tc main_arg2) = V (Proc.devRef .tc main_arg2) := by
  after_reads_simp

theorem seg3_arg3 (V : Valuation τ sig (Elt F)) : after seg3 V (Proc.devRef .tc main_arg3) = V (Proc.devRef .tc main_arg3) := by
  after_reads_simp

theorem seg3_arg4 (V : Valuation τ sig (Elt F)) : after seg3 V (Proc.devRef .tc main_arg4) = V (Proc.devRef .tc main_arg4) := by
  after_reads_simp

theorem seg3_v1 (V : Valuation τ sig (Elt F)) : after seg3 V (Proc.devRef .tc main_v1) = V (Proc.devRef .tc main_v1) := by
  after_reads_simp

theorem seg3_v2 (V : Valuation τ sig (Elt F)) : after seg3 V (Proc.devRef .tc main_v2) = V (Proc.devRef .tc main_v2) := by
  after_reads_simp

theorem seg3_v4 (V : Valuation τ sig (Elt F)) : after seg3 V (Proc.devRef .tc main_v4) = V (Proc.devRef .tc main_v4) := by
  after_reads_simp

theorem seg4_v19 (V : Valuation τ sig (Elt F)) : (after seg4 V (Proc.devRef .tc main_v19) : FVec F S4096x4x64x64 .f32)
    = pick (V (Proc.devRef .tc main_v6)) (V (Proc.devRef .tc main_v12)) (up (put (V (Proc.devRef .tc main_v5)) (V (Proc.devRef .tc main_v4)) (V (Proc.devRef .tc main_arg1)))) := by
  simp only [seg4, TRef.binary, TRef.nullary, TRef.ternary, TRef.unary, TRef.toBuf, TRef.ofBuf, cast_eq]
  after_reads_simp [unaryIndexed_result_read, binaryIndexed_result_read, indexContents_cons, indexContents_empty]
  rfl

theorem seg4_arg0 (V : Valuation τ sig (Elt F)) : after seg4 V (Proc.devRef .tc main_arg0) = V (Proc.devRef .tc main_arg0) := by
  after_reads_simp

theorem seg4_arg1 (V : Valuation τ sig (Elt F)) : after seg4 V (Proc.devRef .tc main_arg1) = V (Proc.devRef .tc main_arg1) := by
  after_reads_simp

theorem seg4_arg2 (V : Valuation τ sig (Elt F)) : after seg4 V (Proc.devRef .tc main_arg2) = V (Proc.devRef .tc main_arg2) := by
  after_reads_simp

theorem seg4_arg3 (V : Valuation τ sig (Elt F)) : after seg4 V (Proc.devRef .tc main_arg3) = V (Proc.devRef .tc main_arg3) := by
  after_reads_simp

theorem seg4_arg4 (V : Valuation τ sig (Elt F)) : after seg4 V (Proc.devRef .tc main_arg4) = V (Proc.devRef .tc main_arg4) := by
  after_reads_simp

theorem seg4_v1 (V : Valuation τ sig (Elt F)) : after seg4 V (Proc.devRef .tc main_v1) = V (Proc.devRef .tc main_v1) := by
  after_reads_simp

theorem seg4_v2 (V : Valuation τ sig (Elt F)) : after seg4 V (Proc.devRef .tc main_v2) = V (Proc.devRef .tc main_v2) := by
  after_reads_simp

theorem seg4_v4 (V : Valuation τ sig (Elt F)) : after seg4 V (Proc.devRef .tc main_v4) = V (Proc.devRef .tc main_v4) := by
  after_reads_simp

theorem seg4_v5 (V : Valuation τ sig (Elt F)) : after seg4 V (Proc.devRef .tc main_v5) = V (Proc.devRef .tc main_v5) := by
  after_reads_simp

theorem seg5_v28 (V : Valuation τ sig (Elt F)) : (after seg5 V (Proc.devRef .tc main_v28) : FVec F S4096x4x64x64 .f32)
    = pick (cmpi .sge (subi (V (Proc.devRef .tc main_arg4)) (constantI S_ 32 1#32)) (constantI S_ 32 0#32))
      (pick (cmpi .eq (V (Proc.devRef .tc main_v2)) (constantI S_ 32 0#32)) (V (Proc.devRef .tc main_v19)) (put (V (Proc.devRef .tc main_v5)) (V (Proc.devRef .tc main_v4)) (V (Proc.devRef .tc main_arg1)))) (V (Proc.devRef .tc main_arg1)) := by
  simp only [seg5, TRef.binary, TRef.nullary, TRef.ternary, TRef.unary, TRef.toBuf, TRef.ofBuf, cast_eq]
  after_reads_simp [unaryIndexed_result_read, binaryIndexed_result_read, indexContents_cons, indexContents_empty]
  rfl

theorem seg5_arg0 (V : Valuation τ sig (Elt F)) : after seg5 V (Proc.devRef .tc main_arg0) = V (Proc.devRef .tc main_arg0) := by
  after_reads_simp

theorem seg5_arg1 (V : Valuation τ sig (Elt F)) : after seg5 V (Proc.devRef .tc main_arg1) = V (Proc.devRef .tc main_arg1) := by
  after_reads_simp

theorem seg5_arg2 (V : Valuation τ sig (Elt F)) : after seg5 V (Proc.devRef .tc main_arg2) = V (Proc.devRef .tc main_arg2) := by
  after_reads_simp

theorem seg5_arg3 (V : Valuation τ sig (Elt F)) : after seg5 V (Proc.devRef .tc main_arg3) = V (Proc.devRef .tc main_arg3) := by
  after_reads_simp

theorem seg5_arg4 (V : Valuation τ sig (Elt F)) : after seg5 V (Proc.devRef .tc main_arg4) = V (Proc.devRef .tc main_arg4) := by
  after_reads_simp

theorem seg5_v1 (V : Valuation τ sig (Elt F)) : after seg5 V (Proc.devRef .tc main_v1) = V (Proc.devRef .tc main_v1) := by
  after_reads_simp

theorem seg5_v2 (V : Valuation τ sig (Elt F)) : after seg5 V (Proc.devRef .tc main_v2) = V (Proc.devRef .tc main_v2) := by
  after_reads_simp

theorem seg6_v37 (V : Valuation τ sig (Elt F)) : (after seg6 V (Proc.devRef .tc main_v37) : FVec F S4096x64 .f32)
    = out (V (Proc.devRef .tc main_v28)) (V (Proc.devRef .tc main_v1)) (V (Proc.devRef .tc main_arg3)) (V (Proc.devRef .tc main_v2)) := by
  simp only [seg6, TRef.binary, TRef.nullary, TRef.ternary, TRef.unary, TRef.toBuf, TRef.ofBuf, cast_eq]
  after_reads_simp [unaryIndexed_result_read, binaryIndexed_result_read, indexContents_cons, indexContents_empty]
  rfl

theorem seg6_arg0 (V : Valuation τ sig (Elt F)) : after seg6 V (Proc.devRef .tc main_arg0) = V (Proc.devRef .tc main_arg0) := by
  after_reads_simp

theorem seg6_arg1 (V : Valuation τ sig (Elt F)) : after seg6 V (Proc.devRef .tc main_arg1) = V (Proc.devRef .tc main_arg1) := by
  after_reads_simp

theorem seg6_arg2 (V : Valuation τ sig (Elt F)) : after seg6 V (Proc.devRef .tc main_arg2) = V (Proc.devRef .tc main_arg2) := by
  after_reads_simp

theorem seg6_arg3 (V : Valuation τ sig (Elt F)) : after seg6 V (Proc.devRef .tc main_arg3) = V (Proc.devRef .tc main_arg3) := by
  after_reads_simp

theorem seg6_arg4 (V : Valuation τ sig (Elt F)) : after seg6 V (Proc.devRef .tc main_arg4) = V (Proc.devRef .tc main_arg4) := by
  after_reads_simp

theorem seg6_v28 (V : Valuation τ sig (Elt F)) : after seg6 V (Proc.devRef .tc main_v28) = V (Proc.devRef .tc main_v28) := by
  after_reads_simp

/-! ## The run -/

theorem after_app (a b : List (HloOp τ sig (Elt F))) (V : Valuation τ sig (Elt F)) : after (a ++ b) V = after b (after a V) := by
  induction a generalizing V with
  | nil => rfl
  | cons o a ih => exact ih _

/-- The operations in order. -/
abbrev ops : List (HloOp τ sig (Elt F)) := seg1 ++ (seg2 ++ (seg3 ++ (seg4 ++ (seg5 ++ seg6))))

set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  have h1 := List.forall_iff_forall_mem.mp (seg1_sub (F := F))
  have h2 := List.forall_iff_forall_mem.mp (seg2_sub (F := F))
  have h3 := List.forall_iff_forall_mem.mp (seg3_sub (F := F))
  have h4 := List.forall_iff_forall_mem.mp (seg4_sub (F := F))
  have h5 := List.forall_iff_forall_mem.mp (seg5_sub (F := F))
  have h6 := List.forall_iff_forall_mem.mp (seg6_sub (F := F))
  refine List.forall_iff_forall_mem.mpr fun op hop => ?_
  rcases List.mem_append.mp hop with h | h
  · exact h1 op h
  rcases List.mem_append.mp h with h | h
  · exact h2 op h
  rcases List.mem_append.mp h with h | h
  · exact h3 op h
  rcases List.mem_append.mp h with h | h
  · exact h4 op h
  rcases List.mem_append.mp h with h | h
  · exact h5 op h
  exact h6 op h

theorem after_eq (V : Valuation τ sig (Elt F)) :
    after ops V = after seg6 (after seg5 (after seg4 (after seg3 (after seg2 (after seg1 V))))) := by
  rw [after_app, after_app, after_app, after_app, after_app]

/-- The second result is the new cache. -/
theorem cache_read (V : Valuation τ sig (Elt F)) : (after ops V (Proc.devRef .tc main_v28) : FVec F S4096x4x64x64 .f32)
    = cache (V (Proc.devRef .tc main_arg0)) (V (Proc.devRef .tc main_arg1)) (V (Proc.devRef .tc main_arg4)) := by
  rw [after_eq, seg6_v28, seg5_v28, seg4_arg4, seg4_v2, seg4_v5, seg4_v4, seg4_arg1, seg4_v19, seg3_arg4, seg3_v2, seg3_v5, seg3_v4,
    seg3_arg1, seg3_v6, seg3_v12, seg2_arg4, seg2_v2, seg2_v4, seg2_arg1, seg2_arg0, seg1_arg4, seg1_v2, seg1_arg1, seg1_arg0]
  rfl

/-- The first result is the output at the new cache. -/
theorem out_read (V : Valuation τ sig (Elt F)) : (after ops V (Proc.devRef .tc main_v37) : FVec F S4096x64 .f32)
    = out (cache (V (Proc.devRef .tc main_arg0)) (V (Proc.devRef .tc main_arg1)) (V (Proc.devRef .tc main_arg4)))
        (weights (V (Proc.devRef .tc main_arg2))) (V (Proc.devRef .tc main_arg3)) (rem (V (Proc.devRef .tc main_arg4))) := by
  have hc := cache_read V
  rw [after_eq, seg6_v28] at hc
  rw [after_eq, seg6_v37, hc, seg5_v1, seg4_v1, seg3_v1, seg2_v1, seg1_v1, seg5_arg3, seg4_arg3, seg3_arg3, seg2_arg3, seg1_arg3,
    seg5_v2, seg4_v2, seg3_v2, seg2_v2, seg1_v2]

theorem keep_arg0 (V : Valuation τ sig (Elt F)) : after ops V (Proc.devRef .tc main_arg0) = V (Proc.devRef .tc main_arg0) := by
  rw [after_eq, seg6_arg0, seg5_arg0, seg4_arg0, seg3_arg0, seg2_arg0, seg1_arg0]

theorem keep_arg1 (V : Valuation τ sig (Elt F)) : after ops V (Proc.devRef .tc main_arg1) = V (Proc.devRef .tc main_arg1) := by
  rw [after_eq, seg6_arg1, seg5_arg1, seg4_arg1, seg3_arg1, seg2_arg1, seg1_arg1]

theorem keep_arg2 (V : Valuation τ sig (Elt F)) : after ops V (Proc.devRef .tc main_arg2) = V (Proc.devRef .tc main_arg2) := by
  rw [after_eq, seg6_arg2, seg5_arg2, seg4_arg2, seg3_arg2, seg2_arg2, seg1_arg2]

theorem keep_arg3 (V : Valuation τ sig (Elt F)) : after ops V (Proc.devRef .tc main_arg3) = V (Proc.devRef .tc main_arg3) := by
  rw [after_eq, seg6_arg3, seg5_arg3, seg4_arg3, seg3_arg3, seg2_arg3, seg1_arg3]

theorem keep_arg4 (V : Valuation τ sig (Elt F)) : after ops V (Proc.devRef .tc main_arg4) = V (Proc.devRef .tc main_arg4) := by
  rw [after_eq, seg6_arg4, seg5_arg4, seg4_arg4, seg3_arg4, seg2_arg4, seg1_arg4]

/-- Every run ends with the two results at their terms and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = out (cache (m ((c.tc : Thread nD τ).loc main_arg0)) (m ((c.tc : Thread nD τ).loc main_arg1)) (m ((c.tc : Thread nD τ).loc main_arg4)))
              (weights (m ((c.tc : Thread nD τ).loc main_arg2))) (m ((c.tc : Thread nD τ).loc main_arg3)) (rem (m ((c.tc : Thread nD τ).loc main_arg4)))
      ∧ r.2.mem ((c.tc : Thread nD τ).loc main_v28)
          = cache (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v37).trans (out_read _), (h c main_v28).trans (cache_read _),
      (h c main_arg0).trans (keep_arg0 _), (h c main_arg1).trans (keep_arg1 _), (h c main_arg2).trans (keep_arg2 _),
      (h c main_arg3).trans (keep_arg3 _), (h c main_arg4).trans (keep_arg4 _)⟩)
    (run_seq scopedRefs_eq scopedSems_eq defs main (fun _ => ops) main_eq (fun _ => ops_sub) m ρ)

end Cert.ReferenceIdeal.Term

end
-- ==== Proof.RefCache.lean ====
/-
  The reference's new cache read at an index.
-/
module

public import proofs.«01_k».proof.Proof.RefRun
public import proofs.«01_k».proof.Proof.Words
public import Idealize.ShloMosaic.Lib.Claim
public import Idealize.ShloMosaic.Lib.Pipeline.Value
public import Idealize.ShloMosaic.Lib.DynamicIndex
public import Idealize.ShloMosaic.Lib.Pointwise.TacticCore
public import Idealize.ShloMosaic.Lib.Pointwise.Reshape

@[expose] public section

set_option maxRecDepth 16384

noncomputable section

namespace Cert.ReferenceIdeal.Term

open Cert.ReferenceIdeal Cert.ReferenceIdeal.Gen
open Idealize.ShloMosaic Idealize.ShloMosaic.TcCoe Idealize.ShloMosaic.Tactic
open Idealize.SL.Sem

variable {F : FTy → Type} [FloatOps F]

/-! ## The scalars -/

theorem rem_eq (x : IVec S_ 32) : rem x ix0 = Words.rem64 (x ix0) := rfl

theorem first_eq : (Shape.Idx.first h_S_ : S_.Idx) = ix0 := Subsingleton.elim _ _

/-- A word that is a remainder by 64 starts the slice at its number. -/
theorem wrap_toInt (k : IVec S_ 32) (e : BitVec 32) (h : (k ix0).toNat < 64) :
    (wrap k e (Shape.Idx.first h_S_)).toInt = ((k ix0).toNat : Int) := by
  have hi : (k ix0).toInt = ((k ix0).toNat : Int) := by
    rw [BitVec.toInt_eq_toNat_cond, if_pos (by omega)]
  rw [first_eq]
  unfold wrap
  rw [select_slt_zero_of_nonneg _ _ _ _ (by rw [hi]; omega), hi]

/-! ## The cache at an index -/

/-- The written cache at an index. -/
theorem put_apply (x : FVec F S4096x64 .f32) (k : IVec S_ 32) (C : FVec F S4096x4x64x64 .f32) (hk : (k ix0).toNat < 64)
    (b : Fin 4096) (h : Fin 4) (w f : Fin 64) :
    put (spread x) k C (ix4 b h w f) = if h.val = 3 ∧ w.val = (k ix0).toNat then x (ix2 b f) else C (ix4 b h w f) := by
  have hb := b.isLt
  have hh := h.isLt
  have hf := f.isLt
  have hS : S4096x4x64x64.Slices ![0, 3, (k ix0).toNat, 0] S4096x1x1x64 := by
    refine ⟨rfl, fun a => ?_⟩
    fin_cases a
    · show 0 + 4096 ≤ 4096; omega
    · show 3 + 1 ≤ 4; omega
    · show (k ix0).toNat + 1 ≤ 64; omega
    · show 0 + 64 ≤ 64; omega
  have hA : ∀ a : Fin S4096x4x64x64.rank, (min (max ((((![constantI S_ 32 0#32, constantI S_ 32 3#32, wrap k 64#32, constantI S_ 32 0#32] :
      Fin 4 → IVec S_ 32)) a (Shape.Idx.first h_S_)).toInt) 0) ((S4096x4x64x64.size a
        - S4096x1x1x64.size (Fin.cast updateFits_S4096x4x64x64_S4096x1x1x64.1 a) : Nat) : Int)).toNat
      = (![0, 3, (k ix0).toNat, 0] : Fin S4096x4x64x64.rank → Nat) a := by
    intro a
    fin_cases a
    · rfl
    · rfl
    · show (min (max ((wrap k 64#32 (Shape.Idx.first h_S_)).toInt) 0) ((64 - 1 : Nat) : Int)).toNat = (k ix0).toNat
      rw [wrap_toInt k 64#32 hk]; omega
    · rfl
  unfold put
  rw [Host.dynamicUpdateSlice_eq_updateSlice _ _ _ _ ![0, 3, (k ix0).toNat, 0] hA hS, updateSlice_apply]
  by_cases hc : h.val = 3 ∧ w.val = (k ix0).toNat
  · have hin : ∀ a : Fin S4096x4x64x64.rank, (![0, 3, (k ix0).toNat, 0] : Fin S4096x4x64x64.rank → Nat) a ≤ ((ix4 b h w f : S4096x4x64x64.Idx) a).val ∧
        ((ix4 b h w f : S4096x4x64x64.Idx) a).val < (![0, 3, (k ix0).toNat, 0] : Fin S4096x4x64x64.rank → Nat) a
          + S4096x1x1x64.size (Fin.cast hS.1 a) := by
      intro a
      fin_cases a
      · show 0 ≤ b.val ∧ b.val < 0 + 4096; omega
      · show 3 ≤ h.val ∧ h.val < 3 + 1; omega
      · show (k ix0).toNat ≤ w.val ∧ w.val < (k ix0).toNat + 1; omega
      · show 0 ≤ f.val ∧ f.val < 0 + 64; omega
    rw [if_pos hc, dif_pos hin]
    show x _ = x _
    congr 1
    funext a
    apply Fin.ext
    fin_cases a <;> rfl
  · rw [if_neg hc, dif_neg ?_]
    intro ha
    have ha' : ∀ a : Fin S4096x4x64x64.rank, (![0, 3, (k ix0).toNat, 0] : Fin S4096x4x64x64.rank → Nat) a ≤ ((ix4 b h w f : S4096x4x64x64.Idx) a).val ∧
        ((ix4 b h w f : S4096x4x64x64.Idx) a).val < (![0, 3, (k ix0).toNat, 0] : Fin S4096x4x64x64.rank → Nat) a
          + S4096x1x1x64.size (Fin.cast hS.1 a) := ha
    have h1 : 3 ≤ h.val ∧ h.val < 3 + 1 := ha' 1
    have h2 : (k ix0).toNat ≤ w.val ∧ w.val < (k ix0).toNat + 1 := ha' 2
    exact hc ⟨by omega, by omega⟩

/-- The moved cache at an index. -/
theorem up_apply (C : FVec F S4096x4x64x64 .f32) (b : Fin 4096) (h : Fin 4) (w f : Fin 64) :
    up C (ix4 b h w f) = if hh : h.val < 3 then C (ix4 b ⟨h.val + 1, by omega⟩ w f) else FloatOps.sitofp .f32 (0#32) := by
  unfold up
  rw [pad_apply]
  have hb := b.isLt
  have hw := w.isLt
  have hf := f.isLt
  by_cases hc : h.val < 3
  · rw [dif_pos hc, dif_pos ?_]
    · show C _ = C _
      congr 1
      funext a
      apply Fin.ext
      fin_cases a
      · show 0 + (b.val - 0) / (0 + 1) = b.val; omega
      · show 1 + (h.val - 0) / (0 + 1) = h.val + 1; omega
      · show 0 + (w.val - 0) / (0 + 1) = w.val; omega
      · show 0 + (f.val - 0) / (0 + 1) = f.val; omega
    · intro a
      fin_cases a
      · show 0 ≤ b.val ∧ (b.val - 0) % (0 + 1) = 0 ∧ (b.val - 0) / (0 + 1) < 4096; omega
      · show 0 ≤ h.val ∧ (h.val - 0) % (0 + 1) = 0 ∧ (h.val - 0) / (0 + 1) < 3; omega
      · show 0 ≤ w.val ∧ (w.val - 0) % (0 + 1) = 0 ∧ (w.val - 0) / (0 + 1) < 64; omega
      · show 0 ≤ f.val ∧ (f.val - 0) % (0 + 1) = 0 ∧ (f.val - 0) / (0 + 1) < 64; omega
  · rw [dif_neg hc, dif_neg ?_]
    · rfl
    · intro ha
      have : 0 ≤ h.val ∧ (h.val - 0) % (0 + 1) = 0 ∧ (h.val - 0) / (0 + 1) < 3 := ha 1
      omega

theorem pick_apply (p : IVec S_ 1) (A B : FVec F S4096x4x64x64 .f32) (j : S4096x4x64x64.Idx) :
    pick p A B j = if p ix0 = 1#1 then A j else B j := by
  unfold pick
  have e : (broadcastInDim S4096x4x64x64 ![] bcast_S_S4096x4x64x64 p) j = p ix0 := by
    show p _ = p _
    congr 1
    exact Subsingleton.elim _ _
  show (if (broadcastInDim S4096x4x64x64 ![] bcast_S_S4096x4x64x64 p) j = 1 then A j else B j) = _
  rw [e]
  rfl

/-- The new cache at an index: the input written at the column before the index's, where the index is at least one, and the
rows moved up where the index starts a row. -/
def newCache (x : FVec F S4096x64 .f32) (C : FVec F S4096x4x64x64 .f32) (i : BitVec 32)
    (b : Fin 4096) (h : Fin 4) (w f : Fin 64) : F .f32 :=
  if 1 ≤ i.toInt then
    if i.toNat % 64 = 0 then
      if hh : h.val < 3 then
        if h.val = 2 ∧ w.val = 63 then x (ix2 b f) else C (ix4 b ⟨h.val + 1, by omega⟩ w f)
      else FloatOps.sitofp .f32 (0#32)
    else if h.val = 3 ∧ w.val = (i.toNat - 1) % 64 then x (ix2 b f) else C (ix4 b h w f)
  else C (ix4 b h w f)

theorem sub_one (i : BitVec 32) (hi : -2147483648 < i.toInt) :
    (0 ≤ (IntOp.subi i 1#32).toInt ↔ 1 ≤ i.toInt) ∧ (1 ≤ i.toInt → (IntOp.subi i 1#32).toNat = i.toNat - 1) := by
  have h1 : (IntOp.subi i 1#32).toNat = (2 ^ 32 - 1 + i.toNat) % 2 ^ 32 := BitVec.toNat_sub i 1#32
  have h2 : i.toInt = if 2 * i.toNat < 2 ^ 32 then (i.toNat : Int) else (i.toNat : Int) - 2 ^ 32 := BitVec.toInt_eq_toNat_cond i
  have h3 : (IntOp.subi i 1#32).toInt = if 2 * (IntOp.subi i 1#32).toNat < 2 ^ 32 then ((IntOp.subi i 1#32).toNat : Int)
      else ((IntOp.subi i 1#32).toNat : Int) - 2 ^ 32 := BitVec.toInt_eq_toNat_cond _
  have h4 := i.isLt
  generalize (IntOp.subi i 1#32).toInt = p at *
  generalize (IntOp.subi i 1#32).toNat = q at *
  split at h2 <;> split at h3 <;> constructor <;> omega

theorem cache_apply (x : FVec F S4096x64 .f32) (C : FVec F S4096x4x64x64 .f32) (i : IVec S_ 32)
    (hi : -2147483648 < (i ix0).toInt) (b : Fin 4096) (h : Fin 4) (w f : Fin 64) :
    cache x C i (ix4 b h w f) = newCache x C (i ix0) b h w f := by
  obtain ⟨h1, h2⟩ := sub_one (i ix0) hi
  have hr := Words.rem64_toNat (IntOp.subi (i ix0) 1#32)
  have hk : (rem (subi i (constantI S_ 32 1#32)) ix0).toNat = (IntOp.subi (i ix0) 1#32).toNat % 64 := hr
  have hk' : (rem (subi i (constantI S_ 32 1#32)) ix0).toNat < 64 := by omega
  have c1 : (cmpi .sge (subi i (constantI S_ 32 1#32)) (constantI S_ 32 0#32) ix0 = 1#1) ↔ 1 ≤ (i ix0).toInt := by
    rw [← h1]
    show BitVec.ofBool (decide (0 ≤ (IntOp.subi (i ix0) 1#32).toInt)) = 1#1 ↔ _
    by_cases hh : 0 ≤ (IntOp.subi (i ix0) 1#32).toInt
    · rw [decide_eq_true hh]; exact ⟨fun _ => hh, fun _ => rfl⟩
    · rw [decide_eq_false hh]; exact ⟨fun h => absurd h (by decide), fun h => absurd h hh⟩
  have ceq : ∀ r : IVec S_ 32, (cmpi .eq r (constantI S_ 32 0#32) ix0 = 1#1) ↔ (r ix0).toNat = 0 := by
    intro r
    have e : cmpi .eq r (constantI S_ 32 0#32) ix0 = BitVec.ofBool (decide ((r ix0).toNat = 0)) := Words.eq_zero (r ix0)
    rw [e]
    by_cases hh : (r ix0).toNat = 0
    · rw [decide_eq_true hh]; exact ⟨fun _ => hh, fun _ => rfl⟩
    · rw [decide_eq_false hh]; exact ⟨fun h => absurd h (by decide), fun h => absurd h hh⟩
  have c2 := ceq (rem i)
  have c3 := ceq (rem (subi i (constantI S_ 32 1#32)))
  rw [rem_eq, Words.rem64_toNat] at c2
  unfold cache newCache
  simp only [pick_apply, c1, c2, c3]
  split
  · next g1 =>
    rw [h2 g1] at hk
    have hp : 1 ≤ (i ix0).toNat := by
      have hv : (i ix0).toInt = if 2 * (i ix0).toNat < 2 ^ 32 then ((i ix0).toNat : Int) else ((i ix0).toNat : Int) - 2 ^ 32 := BitVec.toInt_eq_toNat_cond _
      have := (i ix0).isLt
      split at hv <;> omega
    split
    · next g2 =>
      rw [if_neg (by omega), up_apply]
      split
      · next g3 =>
        rw [put_apply _ _ _ hk', hk]
        refine if_congr ?_ rfl rfl
        show h.val + 1 = 3 ∧ _ ↔ _
        omega
      · rfl
    · next g2 =>
      rw [put_apply _ _ _ hk', hk]
  · rfl

end Cert.ReferenceIdeal.Term

end
-- ==== Proof.RefOut.lean ====
/-
  The reference's output over the extended reals, read at an index: a sum over the window's rows, columns and channels.
-/
module

public import proofs.«01_k».proof.Proof.RefCache
public import proofs.«01_k».proof.Proof.Conv
public import Idealize.ShloMosaic.PureOps.Ideal.Laws
public import Idealize.ShloMosaic.Lib.IdealHost

@[expose] public section

set_option maxRecDepth 16384

noncomputable section

namespace Cert.ReferenceIdeal.Term

open Cert.ReferenceIdeal Cert.ReferenceIdeal.Gen
open Idealize.ShloMosaic Idealize.ShloMosaic.TcCoe Idealize.ShloMosaic.Tactic
open scoped BigOperators

/-- The contraction's dimension numbers. -/
abbrev D : DotDims S4096x4x7x64 S4x7x64x64 S4096x64 := dot_S4096x4x7x64_S4x7x64x64_S4096x64_123_012_0_3_n_n

/-! ## The contraction's index -/

theorem contr_size : ∀ a : Fin (DotDims.contr D).rank, (DotDims.contr D).size a = if a.val = 0 then 4 else if a.val = 1 then 7 else 64 := by
  decide

/-- The contraction's index of a row, a column and a channel. -/
def cIdx (h : Fin 4) (w : Fin 7) (f : Fin 64) : (DotDims.contr D).Idx := fun a =>
  ⟨if a.val = 0 then h.val else if a.val = 1 then w.val else f.val, by
    rw [contr_size]
    have := h.isLt; have := w.isLt; have := f.isLt
    split
    · omega
    · split <;> omega⟩

theorem lt0 : 0 < (DotDims.contr D).rank := by decide
theorem lt1 : 1 < (DotDims.contr D).rank := by decide
theorem lt2 : 2 < (DotDims.contr D).rank := by decide
theorem rank3 : (DotDims.contr D).rank = 3 := by decide

/-- The contraction's indices are the triples of a row, a column and a channel. -/
def cEquiv : Fin 4 × Fin 7 × Fin 64 ≃ (DotDims.contr D).Idx where
  toFun p := cIdx p.1 p.2.1 p.2.2
  invFun q := (⟨(q ⟨0, lt0⟩).val, (q ⟨0, lt0⟩).isLt⟩, ⟨(q ⟨1, lt1⟩).val, (q ⟨1, lt1⟩).isLt⟩, ⟨(q ⟨2, lt2⟩).val, (q ⟨2, lt2⟩).isLt⟩)
  left_inv p := rfl
  right_inv q := by
    funext a
    apply Fin.ext
    have ha : a.val < 3 := lt_of_lt_of_eq a.isLt rank3
    obtain ⟨a, hlt⟩ := a
    have : a = 0 ∨ a = 1 ∨ a = 2 := by simp only at ha; omega
    rcases this with rfl | rfl | rfl <;> rfl

theorem cEquiv_apply (h : Fin 4) (w : Fin 7) (f : Fin 64) : cEquiv (h, w, f) = cIdx h w f := rfl

theorem sum_cIdx (g : (DotDims.contr D).Idx → EReal) :
    ∑ q, g q = ∑ h : Fin 4, ∑ w : Fin 7, ∑ f : Fin 64, g (cIdx h w f) := by
  rw [← Equiv.sum_comp cEquiv g]
  simp only [Fintype.sum_prod_type, cEquiv_apply]

theorem lhs_cIdx (b : Fin 4096) (o : Fin 64) (h : Fin 4) (w : Fin 7) (f : Fin 64) :
    DotDims.lhsIdx D (ix2 b o) (cIdx h w f) = ix4 b h w f := by
  funext a
  apply Fin.ext
  fin_cases a <;> rfl

theorem rhs_cIdx (b : Fin 4096) (o : Fin 64) (h : Fin 4) (w : Fin 7) (f : Fin 64) :
    DotDims.rhsIdx D (ix2 b o) (cIdx h w f) = ix4 h w f o := by
  funext a
  apply Fin.ext
  fin_cases a <;> rfl

theorem dot_apply (l : FVec Ideal S4096x4x7x64 .f32) (r : FVec Ideal S4x7x64x64 .f32) (b : Fin 4096) (o : Fin 64) :
    (Host.dotGeneral D none l r : FVec Ideal S4096x64 .f32) (ix2 b o)
      = (∑ h : Fin 4, ∑ w : Fin 7, ∑ f : Fin 64, l (ix4 b h w f) * r (ix4 h w f o) : EReal) := by
  simp only [Host.dotGeneral]
  rw [Ideal.dotGeneral_apply, sum_cIdx]
  simp only [lhs_cIdx, rhs_cIdx]

/-! ## The operands -/

/-- The window at an index: the cache's column, or zero outside the cache. -/
theorem window_apply (C : FVec Ideal S4096x4x64x64 .f32) (k : IVec S_ 32) (hk : (k ix0).toNat < 64)
    (b : Fin 4096) (h : Fin 4) (w : Fin 7) (f : Fin 64) :
    window C k (ix4 b h w f) = if hin : 3 ≤ (k ix0).toNat + w.val ∧ (k ix0).toNat + w.val < 67 then
      C (ix4 b h ⟨(k ix0).toNat + w.val - 3, by omega⟩ f) else (0 : EReal) := by
  have hw := w.isLt
  have hb := b.isLt
  have hh := h.isLt
  have hf := f.isLt
  have hS : S4096x4x70x64.Slices ![0, 0, (k ix0).toNat, 0] S4096x4x7x64 := by
    refine ⟨rfl, fun a => ?_⟩
    fin_cases a
    · show 0 + 4096 ≤ 4096; omega
    · show 0 + 4 ≤ 4; omega
    · show (k ix0).toNat + 7 ≤ 70; omega
    · show 0 + 64 ≤ 64; omega
  have hs : ∀ a : Fin S4096x4x70x64.rank, (((![constantI S_ 32 0#32, constantI S_ 32 0#32, wrap k 70#32, constantI S_ 32 0#32] :
      Fin 4 → IVec S_ 32)) a (Shape.Idx.first h_S_)).toInt = ((![0, 0, (k ix0).toNat, 0] : Fin S4096x4x70x64.rank → Nat) a : Int) := by
    intro a
    fin_cases a
    · rfl
    · rfl
    · exact wrap_toInt k 70#32 hk
    · rfl
  unfold window
  rw [Host.dynamicSlice_eq_extractStridedSlice _ _ _ ![0, 0, (k ix0).toNat, 0] _ hS hs]
  have e : ∀ P : FVec Ideal S4096x4x70x64 .f32, extractStridedSlice S4096x4x7x64 ![0, 0, (k ix0).toNat, 0] P hS (ix4 b h w f)
      = P (ix4 b h ⟨(k ix0).toNat + w.val, by omega⟩ f) := by
    intro P
    show P _ = P _
    congr 1
    funext a
    apply Fin.ext
    fin_cases a
    · show 0 + b.val = b.val; omega
    · show 0 + h.val = h.val; omega
    · rfl
    · show 0 + f.val = f.val; omega
  rw [e, pad_apply]
  by_cases hc : 3 ≤ (k ix0).toNat + w.val ∧ (k ix0).toNat + w.val < 67
  · rw [dif_pos hc, dif_pos ?_]
    · show C _ = C _
      congr 1
      funext a
      apply Fin.ext
      fin_cases a
      · show (b.val - 0) / (0 + 1) = b.val; omega
      · show (h.val - 0) / (0 + 1) = h.val; omega
      · show ((k ix0).toNat + w.val - 3) / (0 + 1) = (k ix0).toNat + w.val - 3; omega
      · show (f.val - 0) / (0 + 1) = f.val; omega
    · intro a
      fin_cases a
      · show 0 ≤ b.val ∧ (b.val - 0) % (0 + 1) = 0 ∧ (b.val - 0) / (0 + 1) < 4096; omega
      · show 0 ≤ h.val ∧ (h.val - 0) % (0 + 1) = 0 ∧ (h.val - 0) / (0 + 1) < 4; omega
      · show 3 ≤ (k ix0).toNat + w.val ∧ ((k ix0).toNat + w.val - 3) % (0 + 1) = 0 ∧ ((k ix0).toNat + w.val - 3) / (0 + 1) < 64; omega
      · show 0 ≤ f.val ∧ (f.val - 0) % (0 + 1) = 0 ∧ (f.val - 0) / (0 + 1) < 64; omega
  · rw [dif_neg hc, dif_neg ?_]
    · show (((0#32 : BitVec 32).toInt : ℝ) : EReal) = 0
      simp
    · intro ha
      have : 3 ≤ (k ix0).toNat + w.val ∧ ((k ix0).toNat + w.val - 3) % (0 + 1) = 0 ∧ ((k ix0).toNat + w.val - 3) / (0 + 1) < 64 := ha 2
      exact hc (by omega)

theorem mask_val : ∀ (h : Fin 4) (w : Fin 7), lit0 (S4x7x1x1.rowMajor (ix4 h w 0 0))
    = if h.val = 3 ∧ 3 ≤ w.val then 0x00000000#32 else 0x3F800000#32 := by
  decide

theorem weights_apply (K : FVec Ideal S4x7x64x64 .f32) (h : Fin 4) (w : Fin 7) (f o : Fin 64) :
    weights K (ix4 h w f o) = (K (ix4 h w f o) * (if h.val = 3 ∧ 3 ≤ w.val then 0 else 1) : EReal) := by
  show (K (ix4 h w f o) : EReal) * _ = _
  congr 1
  show Ideal.ofBits .f32 (lit0 (S4x7x1x1.rowMajor (ix4 h w 0 0))) = _
  rw [mask_val]
  split
  · exact Ideal.ofBits_zero_f32
  · exact Ideal.ofBits_one_f32

/-! ## The output -/

/-- The output at an index: the convolution of the cache at the index's column, and the bias. -/
theorem out_apply (C : FVec Ideal S4096x4x64x64 .f32) (K : FVec Ideal S4x7x64x64 .f32) (bias : FVec Ideal S64 .f32) (k : IVec S_ 32)
    (hk : (k ix0).toNat < 64) (b : Fin 4096) (o : Fin 64) :
    out C (weights K) bias k (ix2 b o)
      = Conv.conv (fun h w f => C (ix4 b h w f)) (fun h w f => K (ix4 h w f o)) (k ix0).toNat + bias (ix1 o) := by
  show (Host.dotGeneral D none (window C k) (weights K) : FVec Ideal S4096x64 .f32) (ix2 b o) + _ = _
  have hb : (broadcastInDim S4096x64 ![0, 1] bcast_S1x64_S4096x64_0_1 (broadcastInDim S1x64 ![1] bcast_S64_S1x64_1 bias)
      : FVec Ideal S4096x64 .f32) (ix2 b o) = bias (ix1 o) := by
    show bias _ = bias _
    congr 1
    funext a
    apply Fin.ext
    fin_cases a
    rfl
  rw [hb, dot_apply]
  congr 1
  unfold Conv.conv
  refine Finset.sum_congr rfl fun h _ => Finset.sum_congr rfl fun w _ => ?_
  by_cases hm : h.val = 3 ∧ 3 ≤ w.val
  · rw [if_pos hm]
    refine Finset.sum_eq_zero fun f _ => ?_
    rw [weights_apply, if_pos hm, mul_zero, mul_zero]
  · rw [if_neg hm]
    unfold Conv.tapSum
    by_cases hin : 3 ≤ (k ix0).toNat + w.val ∧ (k ix0).toNat + w.val < 67
    · rw [dif_pos hin]
      refine Finset.sum_congr rfl fun f _ => ?_
      rw [window_apply C k hk, dif_pos hin, weights_apply, if_neg hm, mul_one]
    · rw [dif_neg hin]
      refine Finset.sum_eq_zero fun f _ => ?_
      rw [window_apply C k hk, dif_neg hin, zero_mul]

end Cert.ReferenceIdeal.Term

end
-- ==== Proof.KernelValue.lean ====
/-
  The kernel's two result arrays over the extended reals: the reference's terms of the same arguments.
-/
module

public import proofs.«01_k».proof.Proof.Launch
public import proofs.«01_k».proof.Proof.KernelTap
public import proofs.«01_k».proof.Proof.RefCache
public import proofs.«01_k».proof.Proof.RefOut

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem
open Cert.KernelIdeal.Entry (index batchRow)

variable (m : (ℓ : Loc nD τ sig) → Buf (Elt Ideal) ℓ) (ρ : Dev nD → PrngReg)

/-! ## The values -/

/-- The argument arrays of device `c`. -/
abbrev inp (c : Dev nD) : FVec Ideal S4096x64 .f32 := m ((c.tc : Thread nD τ).loc main_arg0)
abbrev old (c : Dev nD) : FVec Ideal S4096x4x64x64 .f32 := m ((c.tc : Thread nD τ).loc main_arg1)
abbrev wts (c : Dev nD) : FVec Ideal S4x7x64x64 .f32 := m ((c.tc : Thread nD τ).loc main_arg2)
abbrev bias (c : Dev nD) : FVec Ideal S64 .f32 := m ((c.tc : Thread nD τ).loc main_arg3)
abbrev at0 (c : Dev nD) : IVec S_ 32 := m ((c.tc : Thread nD τ).loc main_arg4)

/-- The new cache: the reference's term of the arguments. -/
def cacheVal (c : Dev nD) : FVec Ideal S4096x4x64x64 .f32 :=
  Cert.ReferenceIdeal.Term.cache (inp m c) (old m c) (at0 m c)

/-- The output: the reference's term of the new cache and the arguments. -/
def outVal (c : Dev nD) : FVec Ideal S4096x64 .f32 :=
  Cert.ReferenceIdeal.Term.out (cacheVal m c) (Cert.ReferenceIdeal.Term.weights (wts m c)) (bias m c) (Cert.ReferenceIdeal.Term.rem (at0 m c))

/-- The index is not the least word. -/
abbrev Decrements (c : Dev nD) : Prop := -2147483648 < (index m c).toInt

/-! ## The blocks left -/

/-- The row of zeros: the same number either way it is written. -/
theorem zero_eq : (Scalar.ofBits .f32 0x00000000#32 : Ideal .f32) = FloatOps.sitofp .f32 (0#32) := by
  have h1 : (Scalar.ofBits .f32 0x00000000#32 : Ideal .f32) = (0 : EReal) := Ideal.ofBits_zero_f32
  rw [h1]
  show (0 : EReal) = (((0#32 : BitVec 32).toInt : ℝ) : EReal)
  simp

/-- The cache block left, at an index. -/
theorem cacheBlk_apply (c : Dev nD) (hi : Decrements m c) (t : Fin cfg0.N) (r : Fin 64) (h : Fin 4) (w f : Fin 64) :
    Launch.cacheBlk m c t (ix4 r h w f)
      = Cert.ReferenceIdeal.Term.newCache (inp m c) (old m c) (index m c) (batchRow t r) h w f := by
  unfold Launch.cacheBlk Body.coutOf
  rw [Entry.blk0, Entry.word3, Entry.blk0, Entry.word2, Entry.blk0, Entry.word1]
  have hs := Words.shift_eq (index m c)
  have hu := Words.upd_eq (index m c)
  unfold Cert.ReferenceIdeal.Term.newCache
  by_cases h1 : 1 ≤ (index m c).toInt
  · rw [if_pos h1]
    by_cases h2 : (index m c).toNat % 64 = 0
    · rw [if_pos ⟨h1, h2⟩] at hs
      rw [if_pos h2, hs, if_pos rfl]
      unfold Body.coutShift
      show (if hh : h.val < 3 then
          (if h.val = 2 ∧ w.val = 63 then (iblk m c 1 t : Vec Ideal S64x64 .f32) (ix2 r f)
            else (iblk m c 2 t : Vec Ideal S64x4x64x64 .f32) (ix4 r (⟨h.val + 1, by omega⟩ : Fin 4) w f))
        else (Scalar.ofBits .f32 0x00000000#32 : Ideal .f32)) = _
      split
      · rw [Entry.blk1, Entry.blk2]
      · exact zero_eq
    · rw [if_neg (fun hh => h2 hh.2)] at hs
      rw [if_pos h1] at hu
      rw [if_neg h2, hs, hu, if_neg (by decide), if_pos rfl]
      unfold Body.coutUpd
      show (if h.val = 3 ∧ w.val = (Words.rem64 (IntOp.subi (index m c) 1#32)).toNat
          then (iblk m c 1 t : Vec Ideal S64x64 .f32) (ix2 r f)
          else (iblk m c 2 t : Vec Ideal S64x4x64x64 .f32) (ix4 r h w f)) = _
      rw [Entry.blk1, Entry.blk2, Words.rem64_toNat, (Cert.ReferenceIdeal.Term.sub_one (index m c) hi).2 h1]
  · rw [if_neg (fun hh => h1 hh.1)] at hs
    rw [if_neg h1] at hu
    rw [if_neg h1, hs, hu, if_neg (by decide), if_neg (by decide), Entry.blk2]

/-- So it is the new cache's block. -/
theorem cacheBlk_eq (c : Dev nD) (hi : Decrements m c) (t : Fin cfg0.N) (r : Fin 64) (h : Fin 4) (w f : Fin 64) :
    Launch.cacheBlk m c t (ix4 r h w f) = cacheVal m c (ix4 (batchRow t r) h w f) :=
  (cacheBlk_apply m c hi t r h w f).trans
    (Cert.ReferenceIdeal.Term.cache_apply (inp m c) (old m c) (at0 m c) hi (batchRow t r) h w f).symm

/-- And the output block left is the output's block. -/
theorem outBlk_eq (c : Dev nD) (hi : Decrements m c) (t : Fin cfg0.N) (r o : Fin 64) :
    Launch.outBlk m c t (ix2 r o) = outVal m c (ix2 (batchRow t r) o) := by
  have hk : (Cert.ReferenceIdeal.Term.rem (at0 m c) ix0).toNat < 64 := Words.rem64_lt _
  refine Eq.trans ?_ (Cert.ReferenceIdeal.Term.out_apply (cacheVal m c) (wts m c) (bias m c)
    (Cert.ReferenceIdeal.Term.rem (at0 m c)) hk (batchRow t r) o).symm
  unfold Launch.outBlk
  rw [Entry.blk0, Entry.word0, Body.yBlk_apply _ (Words.rem64_lt _), Entry.blk4]
  simp only [cacheBlk_eq m c hi, Entry.blk3]
  rfl

/-! ## The arrays the blocks make -/

theorem at5 : ∀ t : Fin cfg0.N, win0_5.index t 0 = t.val ∧ win0_5.index t 1 = 0 := by decide +kernel
theorem at6 : ∀ t : Fin cfg0.N, win0_6.index t 0 = t.val ∧ win0_6.index t 1 = 0 ∧ win0_6.index t 2 = 0 ∧ win0_6.index t 3 = 0 := by
  decide +kernel
theorem ext5 : ∀ t : Fin cfg0.N, win0_5.xsize (grid0.coords t) 0 = 64 ∧ win0_5.xsize (grid0.coords t) 1 = 64 := by decide +kernel
theorem ext6 : ∀ t : Fin cfg0.N, win0_6.xsize (grid0.coords t) 0 = 64 ∧ win0_6.xsize (grid0.coords t) 1 = 4
    ∧ win0_6.xsize (grid0.coords t) 2 = 64 ∧ win0_6.xsize (grid0.coords t) 3 = 64 := by decide +kernel

set_option backward.isDefEq.respectTransparency.types false in
/-- The output block written back is the block of the output. -/
theorem flushed5 (c : Dev nD) (hi : Decrements m c) (t : Fin cfg0.N) :
    (Launch.dats m 0 c).flushed 5 t = (win0_5.blk t).view.read (Elt Ideal) (outVal m c) := by
  show (cfg0.win 5).cut (grid0.coords t) ((Launch.dats m 0 c).after 5 t) = _
  rw [Launch.after_5]
  funext j
  show Launch.outBlk m c t (ix2 (j 0 : Fin 64) (j 1 : Fin 64)) = outVal m c ((win0_5.rect t).emb j)
  rw [outBlk_eq m c hi]
  congr 1
  obtain ⟨h0, h1⟩ := at5 t
  funext a
  apply Fin.ext
  fin_cases a
  · show 64 * t.val + (j 0).val = win0_5.index t 0 * 64 + (1 * (j 0).val)
    rw [h0]; omega
  · show (j 1).val = win0_5.index t 1 * 64 + (1 * (j 1).val)
    rw [h1]; omega

set_option backward.isDefEq.respectTransparency.types false in
/-- The cache block written back is the block of the new cache. -/
theorem flushed6 (c : Dev nD) (hi : Decrements m c) (t : Fin cfg0.N) :
    (Launch.dats m 0 c).flushed 6 t = (win0_6.blk t).view.read (Elt Ideal) (cacheVal m c) := by
  show (cfg0.win 6).cut (grid0.coords t) ((Launch.dats m 0 c).after 6 t) = _
  rw [Launch.after_6]
  funext j
  refine Eq.trans (b := Launch.cacheBlk m c t (ix4 (j 0 : Fin 64) (j 1 : Fin 4) (j 2 : Fin 64) (j 3 : Fin 64)))
    (congrArg (Launch.cacheBlk m c t) (funext fun a => Fin.ext (by fin_cases a <;> rfl))) ?_
  show _ = cacheVal m c ((win0_6.rect t).emb j)
  rw [cacheBlk_eq m c hi]
  congr 1
  obtain ⟨h0, h1, h2, h3⟩ := at6 t
  funext a
  apply Fin.ext
  fin_cases a
  · show 64 * t.val + (j 0).val = win0_6.index t 0 * 64 + (1 * (j 0).val)
    rw [h0]; omega
  · show (j 1).val = win0_6.index t 1 * 4 + (1 * (j 1).val)
    rw [h1]; omega
  · show (j 2).val = win0_6.index t 2 * 64 + (1 * (j 2).val)
    rw [h2]; omega
  · show (j 3).val = win0_6.index t 3 * 64 + (1 * (j 3).val)
    rw [h3]; omega

/-- Point `t`'s output block holds 64 rows of the output, -/
theorem mem5 (t : Fin cfg0.N) (i : S4096x64.Idx) (hi : t.val * 64 ≤ (i 0).val ∧ (i 0).val < t.val * 64 + 64) :
    i ∈ ((cfg0.win 5).blk t).view.set := by
  show i ∈ ((View.whole main_v15_0).slice (win0_5.rect t)).set
  rw [View.set_slice_whole, Rect.mem_set_unit]
  have h1 : (i 1).val < 64 := (i 1).isLt
  obtain ⟨a0, a1⟩ := at5 t
  obtain ⟨e0, e1⟩ := ext5 t
  intro a
  match a with
  | ⟨0, _⟩ =>
    show win0_5.index t 0 * 64 ≤ (i 0).val ∧ (i 0).val < win0_5.index t 0 * 64 + win0_5.xsize (grid0.coords t) 0
    rw [a0, e0]; exact hi
  | ⟨1, _⟩ =>
    show win0_5.index t 1 * 64 ≤ (i 1).val ∧ (i 1).val < win0_5.index t 1 * 64 + win0_5.xsize (grid0.coords t) 1
    rw [a1, e1]; omega

/-- and its cache block 64 rows of the cache, -/
theorem mem6 (t : Fin cfg0.N) (i : S4096x4x64x64.Idx) (hi : t.val * 64 ≤ (i 0).val ∧ (i 0).val < t.val * 64 + 64) :
    i ∈ ((cfg0.win 6).blk t).view.set := by
  show i ∈ ((View.whole main_v15_1).slice (win0_6.rect t)).set
  rw [View.set_slice_whole, Rect.mem_set_unit]
  have h1 : (i 1).val < 4 := (i 1).isLt
  have h2 : (i 2).val < 64 := (i 2).isLt
  have h3 : (i 3).val < 64 := (i 3).isLt
  obtain ⟨a0, a1, a2, a3⟩ := at6 t
  obtain ⟨e0, e1, e2, e3⟩ := ext6 t
  intro a
  match a with
  | ⟨0, _⟩ =>
    show win0_6.index t 0 * 64 ≤ (i 0).val ∧ (i 0).val < win0_6.index t 0 * 64 + win0_6.xsize (grid0.coords t) 0
    rw [a0, e0]; exact hi
  | ⟨1, _⟩ =>
    show win0_6.index t 1 * 4 ≤ (i 1).val ∧ (i 1).val < win0_6.index t 1 * 4 + win0_6.xsize (grid0.coords t) 1
    rw [a1, e1]; omega
  | ⟨2, _⟩ =>
    show win0_6.index t 2 * 64 ≤ (i 2).val ∧ (i 2).val < win0_6.index t 2 * 64 + win0_6.xsize (grid0.coords t) 2
    rw [a2, e2]; omega
  | ⟨3, _⟩ =>
    show win0_6.index t 3 * 64 ≤ (i 3).val ∧ (i 3).val < win0_6.index t 3 * 64 + win0_6.xsize (grid0.coords t) 3
    rw [a3, e3]; omega

/-- so every row lies in a block. -/
theorem point_of (n : ℕ) (hn : n < 4096) : ∃ t : Fin cfg0.N, t.val * 64 ≤ n ∧ n < t.val * 64 + 64 := by
  have hN : cfg0.N = 64 := N_0
  exact ⟨⟨n / 64, by omega⟩, by show n / 64 * 64 ≤ n; omega, by show n < n / 64 * 64 + 64; omega⟩

theorem final5 (c : Dev nD) (hi : Decrements m c) : (Launch.dats m 0 c).arrAt 5 cfg0.N = outVal m c :=
  (Launch.dats m 0 c).arrAt_eq_of_cover 5 (outVal m c) (fun t _ => flushed5 m c hi t) fun i => by
    obtain ⟨t, ht⟩ := point_of ((i : S4096x64.Idx) 0).val ((i : S4096x64.Idx) 0).isLt
    exact ⟨t, flush0_5 t, mem5 t i ht⟩

theorem final6 (c : Dev nD) (hi : Decrements m c) : (Launch.dats m 0 c).arrAt 6 cfg0.N = cacheVal m c :=
  (Launch.dats m 0 c).arrAt_eq_of_cover 6 (cacheVal m c) (fun t _ => flushed6 m c hi t) fun i => by
    obtain ⟨t, ht⟩ := point_of ((i : S4096x4x64x64.Idx) 0).val ((i : S4096x4x64x64.Idx) 0).isLt
    exact ⟨t, flush0_6 t, mem6 t i ht⟩

/-! ## The run, read -/

/-- Every execution ends with the output and the new cache in the result arrays, the arguments unchanged. -/
theorem run (hi : ∀ c : Dev nD, Decrements m c) :
    θ_run defs (onTc (τ := τ) (main (F := Ideal))) ⟨m, fun _ => 0, ρ⟩ fun r => ∀ c : Dev nD,
      r.2.mem ((c.tc : Thread nD τ).loc main_v15_0) = outVal m c
      ∧ r.2.mem ((c.tc : Thread nD τ).loc main_v15_1) = cacheVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨((h.1 c).1 5).trans (final5 m c (hi c)), ((h.1 c).1 6).trans (final6 m c (hi c)), h.2.1 c⟩)
    (θ_run_and (Launch.run m ρ) (Launch.frame m ρ))

end Cert.KernelIdeal.Value

end
-- ==== Proof.lean ====
/-
  The claims, assembled from the modules under Proof/: the frames, and the equality of the kernel's two results with
  the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsFrame
public import proofs.«01_k».proof.Proof.KernelValue
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The precondition states no side condition. -/
theorem pre_facts : Cert.Pre_index_decrements.Facts := {}

/-- The precondition says that the index is not the least word. -/
theorem decrements (m : (ℓ : Loc Cert.KernelIdeal.nD Cert.KernelIdeal.τ Cert.KernelIdeal.sig) → Buf (Elt Ideal) ℓ)
    (hpre : Cert.Pre_KernelIdeal_index_decrements (hPre_index_decrements := pre_facts) m) (c : Dev Cert.KernelIdeal.nD) :
    Cert.KernelIdeal.Value.Decrements m c := by
  have h : BitVec.ofBool (decide ((2147483648#32 : BitVec 32).toInt < (Cert.KernelIdeal.Entry.index m c).toInt)) = 1#1 :=
    congrFun (hpre c) ix0
  by_contra hn
  have hd : decide ((2147483648#32 : BitVec 32).toInt < (Cert.KernelIdeal.Entry.index m c).toInt) = false :=
    decide_eq_false (show ¬ ((2147483648#32 : BitVec 32).toInt < (Cert.KernelIdeal.Entry.index m c).toInt) from hn)
  rw [hd] at h
  exact absurd h (by decide)

/-- The kernel's frame, over the extended reals. -/
theorem frame_ideal : Cert.quiescent_KernelIdeal (hKernelIdeal := Cert.KernelIdeal.Gen.facts) := fun m ρ _ =>
  Cert.KernelIdeal.Launch.frame m ρ

/-- The reference's frame. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Term.run (F := Ideal) m ρ)

/-- The kernel's two results are the reference's. -/
theorem same : Cert.algebraic_KernelIdeal_ReferenceIdeal_pre_index_decrements (hKernelIdeal := Cert.KernelIdeal.Gen.facts)
    (hReferenceIdeal := Cert.ReferenceIdeal.Gen.facts) (hPre_index_decrements := pre_facts) := by
  intro m ρ m' ρ' hpre hagree
  refine ⟨fun c => Cert.KernelIdeal.Value.outVal m c, fun c => Cert.KernelIdeal.Value.cacheVal m c,
    Cert.KernelIdeal.Value.run m ρ (decrements m hpre), ?_⟩
  refine (θ_run Cert.ReferenceIdeal.defs _ _).mono (fun r h c => ?_) (Cert.ReferenceIdeal.Term.run (F := Ideal) m' ρ')
  obtain ⟨e0, e1, e2, e3, e4⟩ := hagree c
  obtain ⟨h0, h1, h2⟩ := h c
  rw [e0, e1, e2, e3, e4] at h0
  rw [e0, e1, e4] at h1
  exact ⟨h0, h1, h2⟩

theorem claim : Cert.Claim := ⟨Cert.Kernel.Gen.facts, Cert.KernelIdeal.Gen.facts, Cert.ReferenceIdeal.Gen.facts, pre_facts,
  Cert.Kernel.BitsFrame.frame, frame_ideal, fun m ρ _ => frame_ideal m ρ trivial, frame_reference, fun m ρ _ => frame_reference m ρ trivial,
  trivial, same⟩

end Cert.Proof

end
